-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_z_finite [hPre_z_finite : Cert.Pre_z_finite.Facts] (m : (ℓ : Loc Cert.KernelIdeal.nD Cert.KernelIdeal.τ Cert.KernelIdeal.sig) → Buf (Elt Ideal) ℓ) : Prop :=
  ∀ c : Dev Cert.KernelIdeal.nD,
    (Cert.Pre_z_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_z_finite [hPre_z_finite : Cert.Pre_z_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_z_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_z_finite [hKernelIdeal : Cert.KernelIdeal.Facts] [hPre_z_finite : Cert.Pre_z_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_z_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_z_finite [hReferenceIdeal : Cert.ReferenceIdeal.Facts] [hPre_z_finite : Cert.Pre_z_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_z_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_z_finite [hKernelIdeal : Cert.KernelIdeal.Facts] [hReferenceIdeal : Cert.ReferenceIdeal.Facts] [hPre_z_finite : Cert.Pre_z_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_z_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21_1)) (v1 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_1) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_z_finite : Cert.Pre_z_finite.Facts),
    quiescent_Kernel (hKernel := hKernel)
    ∧ quiescent_KernelIdeal (hKernelIdeal := hKernelIdeal)
    ∧ quiescent_KernelIdeal_pre_z_finite (hKernelIdeal := hKernelIdeal) (hPre_z_finite := hPre_z_finite)
    ∧ quiescent_ReferenceIdeal (hReferenceIdeal := hReferenceIdeal)
    ∧ quiescent_ReferenceIdeal_pre_z_finite (hReferenceIdeal := hReferenceIdeal) (hPre_z_finite := hPre_z_finite)
    ∧ preserves_Kernel_KernelIdeal
    ∧ algebraic_KernelIdeal_ReferenceIdeal_pre_z_finite (hKernelIdeal := hKernelIdeal) (hReferenceIdeal := hReferenceIdeal) (hPre_z_finite := hPre_z_finite)
-- ==== Pre_z_finite.lean ====
abbrev S1x768x256 : Shape := ⟨3, ![1, 768, 256]⟩
abbrev S1x768x768x128 : Shape := ⟨4, ![1, 768, 768, 128]⟩
abbrev S1x768x3 : Shape := ⟨3, ![1, 768, 3]⟩
abbrev S128x15 : Shape := ⟨2, ![128, 15]⟩
abbrev S128 : Shape := ⟨1, ![128]⟩
abbrev S256 : Shape := ⟨1, ![256]⟩
abbrev S_ : Shape := ⟨0, ![]⟩

class Facts : Prop where
  bcast_S_S1x768x768x128 : S_.BroadcastsInDim S1x768x768x128 (![] : Fin 0 → Fin S1x768x768x128.rank)

variable [Facts]

def fn {F : FTy → Type} [FloatOps F] (main_arg0 : FVec F S1x768x256 .f32) (main_arg1 : FVec F S1x768x768x128 .f32) (main_arg2 : FVec F S1x768x3 .f32) (main_arg3 : FVec F S128x15 .f32) (main_arg4 : FVec F S128 .f32) (main_arg5 : FVec F S256 .f32) (main_arg6 : FVec F S256 .f32) (main_arg7 : FVec F S128 .f32) (main_arg8 : FVec F S128 .f32) : IVec S1x768x768x128 1 :=
  let main_v0 : FVec F S1x768x768x128 .f32 := Host.absf main_arg1
  let main_cst : FVec F S_ .f32 := constant S_ .f32 0x7F800000#32
  let main_v1 : FVec F S1x768x768x128 .f32 := broadcastInDim S1x768x768x128 ![] bcast_S_S1x768x768x128 main_cst
  let main_v2 : IVec S1x768x768x128 1 := cmpf .olt main_v0 main_v1
  main_v2
-- ==== Kernel.lean ====
abbrev S1x768x256 : Shape := ⟨3, ![1, 768, 256]⟩
abbrev S1x768x768x128 : Shape := ⟨4, ![1, 768, 768, 128]⟩
abbrev S1x768x3 : Shape := ⟨3, ![1, 768, 3]⟩
abbrev S128x15 : Shape := ⟨2, ![128, 15]⟩
abbrev S128 : Shape := ⟨1, ![128]⟩
abbrev S256 : Shape := ⟨1, ![256]⟩
abbrev S1 : Shape := ⟨1, ![1]⟩
abbrev S768x256 : Shape := ⟨2, ![768, 256]⟩
abbrev S768x768x128 : Shape := ⟨3, ![768, 768, 128]⟩
abbrev S768x3 : Shape := ⟨2, ![768, 3]⟩
abbrev S3x768 : Shape := ⟨2, ![3, 768]⟩
abbrev S_ : Shape := ⟨0, ![]⟩
abbrev S14 : Shape := ⟨1, ![14]⟩
abbrev S15 : Shape := ⟨1, ![15]⟩
abbrev S16 : Shape := ⟨1, ![16]⟩
abbrev S1x1x16 : Shape := ⟨3, ![1, 1, 16]⟩
abbrev S15x128 : Shape := ⟨2, ![15, 128]⟩
abbrev S1x128 : Shape := ⟨2, ![1, 128]⟩
abbrev S16x128 : Shape := ⟨2, ![16, 128]⟩
abbrev S1x1x128 : Shape := ⟨3, ![1, 1, 128]⟩
abbrev S1x256 : Shape := ⟨2, ![1, 256]⟩
abbrev S64x128x128 : Shape := ⟨3, ![64, 128, 128]⟩
abbrev S64x3 : Shape := ⟨2, ![64, 3]⟩
abbrev S3x128 : Shape := ⟨2, ![3, 128]⟩
abbrev S64x256 : Shape := ⟨2, ![64, 256]⟩
abbrev S64 : Shape := ⟨1, ![64]⟩
abbrev S64x1 : Shape := ⟨2, ![64, 1]⟩
abbrev S8x3 : Shape := ⟨2, ![8, 3]⟩
abbrev S8x1 : Shape := ⟨2, ![8, 1]⟩
abbrev S8x128 : Shape := ⟨2, ![8, 128]⟩
abbrev S8x128x128 : Shape := ⟨3, ![8, 128, 128]⟩
abbrev S8x128x1 : Shape := ⟨3, ![8, 128, 1]⟩
abbrev S8x128x16 : Shape := ⟨3, ![8, 128, 16]⟩
abbrev S1024x16 : Shape := ⟨2, ![1024, 16]⟩
abbrev S1024x128 : Shape := ⟨2, ![1024, 128]⟩

abbrev nBuf : Space → Nat
  | .hbm => 57
  | .vmem => 19
  | .smem => 0
  | _ => 0

abbrev bufTy : (tb : Table) → Fin (tcTables nBuf tb) → BufTy
  | .hbm, ⟨0, _⟩ => ⟨S1x768x256, .f32⟩
  | .hbm, ⟨1, _⟩ => ⟨S1x768x768x128, .f32⟩
  | .hbm, ⟨2, _⟩ => ⟨S1x768x3, .f32⟩
  | .hbm, ⟨3, _⟩ => ⟨S128x15, .f32⟩
  | .hbm, ⟨4, _⟩ => ⟨S128, .f32⟩
  | .hbm, ⟨5, _⟩ => ⟨S256, .f32⟩
  | .hbm, ⟨6, _⟩ => ⟨S256, .f32⟩
  | .hbm, ⟨7, _⟩ => ⟨S128, .f32⟩
  | .hbm, ⟨8, _⟩ => ⟨S128, .f32⟩
  | .hbm, ⟨9, _⟩ => ⟨S1, .f32⟩
  | .hbm, ⟨10, _⟩ => ⟨S1, .f32⟩
  | .hbm, ⟨11, _⟩ => ⟨S768x256, .f32⟩
  | .hbm, ⟨12, _⟩ => ⟨S768x768x128, .f32⟩
  | .hbm, ⟨13, _⟩ => ⟨S768x3, .f32⟩
  | .hbm, ⟨14, _⟩ => ⟨S3x768, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S14, .f32⟩
  | .hbm, ⟨23, _⟩ => ⟨S_, .f32⟩
  | .hbm, ⟨24, _⟩ => ⟨S14, .f32⟩
  | .hbm, ⟨25, _⟩ => ⟨S14, .f32⟩
  | .hbm, ⟨26, _⟩ => ⟨S1, .f32⟩
  | .hbm, ⟨27, _⟩ => ⟨S_, .f32⟩
  | .hbm, ⟨28, _⟩ => ⟨S14, .f32⟩
  | .hbm, ⟨29, _⟩ => ⟨S14, .f32⟩
  | .hbm, ⟨30, _⟩ => ⟨S14, .f32⟩
  | .hbm, ⟨31, _⟩ => ⟨S14, .f32⟩
  | .hbm, ⟨32, _⟩ => ⟨S1, .f32⟩
  | .hbm, ⟨33, _⟩ => ⟨S14, .f32⟩
  | .hbm, ⟨34, _⟩ => ⟨S14, .f32⟩
  | .hbm, ⟨35, _⟩ => ⟨S14, .f32⟩
  | .hbm, ⟨36, _⟩ => ⟨S1, .f32⟩
  | .hbm, ⟨37, _⟩ => ⟨S15, .f32⟩
  | .hbm, ⟨38, _⟩ => ⟨S15, .f32⟩
  | .hbm, ⟨39, _⟩ => ⟨S14, .f32⟩
  | .hbm, ⟨40, _⟩ => ⟨S15, .f32⟩
  | .hbm, ⟨41, _⟩ => ⟨S16, .f32⟩
  | .hbm, ⟨42, _⟩ => ⟨S1x1x16, .f32⟩
  | .hbm, ⟨43, _⟩ => ⟨S16, .f32⟩
  | .hbm, ⟨44, _⟩ => ⟨S1x1x16, .f32⟩
  | .hbm, ⟨45, _⟩ => ⟨S15x128, .f32⟩
  | .hbm, ⟨46, _⟩ => ⟨S_, .f32⟩
  | .hbm, ⟨47, _⟩ => ⟨S1x128, .f32⟩
  | .hbm, ⟨48, _⟩ => ⟨S16x128, .f32⟩
  | .hbm, ⟨49, _⟩ => ⟨S16x128, .bf16⟩
  | .hbm, ⟨50, _⟩ => ⟨S128, .f32⟩
  | .hbm, ⟨51, _⟩ => ⟨S1x1x128, .f32⟩
  | .hbm, ⟨52, _⟩ => ⟨S1x1x128, .f32⟩
  | .hbm, ⟨53, _⟩ => ⟨S1x256, .f32⟩
  | .hbm, ⟨54, _⟩ => ⟨S1x256, .f32⟩
  | .hbm, ⟨55, _⟩ => ⟨S768x768x128, .f32⟩
  | .hbm, ⟨56, _⟩ => ⟨S768x256, .f32⟩
  | .local _ .vmem, ⟨0, _⟩ => ⟨S64x128x128, .f32⟩
  | .local _ .vmem, ⟨1, _⟩ => ⟨S64x128x128, .f32⟩
  | .local _ .vmem, ⟨2, _⟩ => ⟨S64x3, .f32⟩
  | .local _ .vmem, ⟨3, _⟩ => ⟨S64x3, .f32⟩
  | .local _ .vmem, ⟨4, _⟩ => ⟨S3x128, .f32⟩
  | .local _ .vmem, ⟨5, _⟩ => ⟨S3x128, .f32⟩
  | .local _ .vmem, ⟨6, _⟩ => ⟨S64x256, .f32⟩
  | .local _ .vmem, ⟨7, _⟩ => ⟨S64x256, .f32⟩
  | .local _ .vmem, ⟨8, _⟩ => ⟨S16x128, .bf16⟩
  | .local _ .vmem, ⟨9, _⟩ => ⟨S1x1x128, .f32⟩
  | .local _ .vmem, ⟨10, _⟩ => ⟨S1x1x128, .f32⟩
  | .local _ .vmem, ⟨11, _⟩ => ⟨S1x256, .f32⟩
  | .local _ .vmem, ⟨12, _⟩ => ⟨S1x256, .f32⟩
  | .local _ .vmem, ⟨13, _⟩ => ⟨S1x1x16, .f32⟩
  | .local _ .vmem, ⟨14, _⟩ => ⟨S1x1x16, .f32⟩
  | .local _ .vmem, ⟨15, _⟩ => ⟨S64x128x128, .f32⟩
  | .local _ .vmem, ⟨16, _⟩ => ⟨S64x128x128, .f32⟩
  | .local _ .vmem, ⟨17, _⟩ => ⟨S64x256, .f32⟩
  | .local _ .vmem, ⟨18, _⟩ => ⟨S64x256, .f32⟩
  | _, _ => ⟨S1x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_3 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21_0 : Ref sig .tc := ⟨.hbm, 55, rfl⟩
abbrev main_v21_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![12, 6], ![false, false]⟩

@[reducible] def k0_t1_loop : Scf.Loop 32 :=
  let c0_i32_16 : BitVec 32 := 0#32
  let c8_i32 : BitVec 32 := 8#32
  let v15 : BitVec 32 := Scalar.addi c0_i32_16 c8_i32
  let c1_i32 : BitVec 32 := 1#32
  ⟨c0_i32_16, v15, c1_i32⟩
def k0_mult1 (k0_t1 : Fin k0_t1_loop.trips) : BitVec 32 :=
  let c0_i32_16 : BitVec 32 := 0#32
  let c1_i32 : BitVec 32 := 1#32
  let arg15 : BitVec 32 := Scf.iv c0_i32_16 c1_i32 k0_t1
  let c8_i32_18 : BitVec 32 := 8#32
  let v16 : BitVec 32 := Scalar.muli arg15 c8_i32_18
  v16
def k0_off1 (k0_t1 : Fin k0_t1_loop.trips) : Fin 2 → Nat :=
  let c0_i32_16 : BitVec 32 := 0#32
  let c1_i32 : BitVec 32 := 1#32
  let arg15 : BitVec 32 := Scf.iv c0_i32_16 c1_i32 k0_t1
  let c8_i32_18 : BitVec 32 := 8#32
  let v16 : BitVec 32 := Scalar.muli arg15 c8_i32_18
  let v17 : BitVec 32 := v16
  let v18 : Index := Scalar.indexCast v17
  let c0_19 : Index := 0#32
  ![v18.toNat, 0]
def k0_off2 (k0_t1 : Fin k0_t1_loop.trips) : Fin 3 → Nat :=
  let c0_i32_16 : BitVec 32 := 0#32
  let c1_i32 : BitVec 32 := 1#32
  let arg15 : BitVec 32 := Scf.iv c0_i32_16 c1_i32 k0_t1
  let c8_i32_18 : BitVec 32 := 8#32
  let v16 : BitVec 32 := Scalar.muli arg15 c8_i32_18
  let v17 : BitVec 32 := v16
  let v41 : Index := Scalar.indexCast v17
  let c0_20 : Index := 0#32
  let c0_21 : Index := 0#32
  ![v41.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S1x768x256 : Shape := ⟨3, ![1, 768, 256]⟩
abbrev S1x768x768x128 : Shape := ⟨4, ![1, 768, 768, 128]⟩
abbrev S1x768x3 : Shape := ⟨3, ![1, 768, 3]⟩
abbrev S128x15 : Shape := ⟨2, ![128, 15]⟩
abbrev S128 : Shape := ⟨1, ![128]⟩
abbrev S256 : Shape := ⟨1, ![256]⟩
abbrev S1 : Shape := ⟨1, ![1]⟩
abbrev S_ : Shape := ⟨0, ![]⟩
abbrev S14 : Shape := ⟨1, ![14]⟩
abbrev S15 : Shape := ⟨1, ![15]⟩
abbrev S1x768 : Shape := ⟨2, ![1, 768]⟩
abbrev S1x768x1 : Shape := ⟨3, ![1, 768, 1]⟩
abbrev S1x1x256 : Shape := ⟨3, ![1, 1, 256]⟩
abbrev S1x768x1x3 : Shape := ⟨4, ![1, 768, 1, 3]⟩
abbrev S1x1x768x3 : Shape := ⟨4, ![1, 1, 768, 3]⟩
abbrev S1x768x768x3 : Shape := ⟨4, ![1, 768, 768, 3]⟩
abbrev S1x768x768 : Shape := ⟨3, ![1, 768, 768]⟩
abbrev S1x768x768x1 : Shape := ⟨4, ![1, 768, 768, 1]⟩
abbrev S1x1x1x15 : Shape := ⟨4, ![1, 1, 1, 15]⟩
abbrev S1x768x768x15 : Shape := ⟨4, ![1, 768, 768, 15]⟩
abbrev S1x1x1x128 : Shape := ⟨4, ![1, 1, 1, 128]⟩
abbrev S768x256 : Shape := ⟨2, ![768, 256]⟩
abbrev S768x768x128 : Shape := ⟨3, ![768, 768, 128]⟩

abbrev nBuf : Space → Nat
  | .hbm => 150
  | .vmem => 0
  | .smem => 0
  | _ => 0

abbrev hbmTy0_0 (i : Nat) : BufTy := match i % 128 with
  | 0 => ⟨S1x768x256, .f32⟩
  | 1 => ⟨S1x768x768x128, .f32⟩
  | 2 => ⟨S1x768x3, .f32⟩
  | 3 => ⟨S128x15, .f32⟩
  | 4 => ⟨S128, .f32⟩
  | 5 => ⟨S256, .f32⟩
  | 6 => ⟨S256, .f32⟩
  | 7 => ⟨S128, .f32⟩
  | 8 => ⟨S128, .f32⟩
  | 9 => ⟨S1, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S14, .f32⟩
  | 18 => ⟨S_, .f32⟩
  | 19 => ⟨S14, .f32⟩
  | 20 => ⟨S14, .f32⟩
  | 21 => ⟨S1, .f32⟩
  | 22 => ⟨S_, .f32⟩
  | 23 => ⟨S14, .f32⟩
  | 24 => ⟨S14, .f32⟩
  | 25 => ⟨S14, .f32⟩
  | 26 => ⟨S14, .f32⟩
  | 27 => ⟨S1, .f32⟩
  | 28 => ⟨S14, .f32⟩
  | 29 => ⟨S14, .f32⟩
  | 30 => ⟨S14, .f32⟩
  | 31 => ⟨S1, .f32⟩
  | 32 => ⟨S15, .f32⟩
  | 33 => ⟨S15, .f32⟩
  | 34 => ⟨S14, .f32⟩
  | 35 => ⟨S15, .f32⟩
  | 36 => ⟨S_, .f32⟩
  | 37 => ⟨S1x768, .f32⟩
  | 38 => ⟨S1x768x1, .f32⟩
  | 39 => ⟨S_, .f32⟩
  | 40 => ⟨S1x768x1, .f32⟩
  | 41 => ⟨S1x768x1, .f32⟩
  | 42 => ⟨S_, .i32⟩
  | 43 => ⟨S_, .f32⟩
  | 44 => ⟨S1x768, .f32⟩
  | 45 => ⟨S1x768x1, .f32⟩
  | 46 => ⟨S_, .f32⟩
  | 47 => ⟨S1x768x1, .f32⟩
  | 48 => ⟨S1x768x1, .f32⟩
  | 49 => ⟨S1x768x256, .f32⟩
  | 50 => ⟨S1x768x256, .f32⟩
  | 51 => ⟨S1x768x256, .f32⟩
  | 52 => ⟨S_, .f32⟩
  | 53 => ⟨S_, .f32⟩
  | 54 => ⟨S_, .f32⟩
  | 55 => ⟨S_, .f32⟩
  | 56 => ⟨S1x768, .f32⟩
  | 57 => ⟨S1x768x1, .f32⟩
  | 58 => ⟨S1x768x1, .f32⟩
  | 59 => ⟨S1x768x1, .f32⟩
  | 60 => ⟨S_, .f32⟩
  | 61 => ⟨S_, .i1⟩
  | 62 => ⟨S_, .f32⟩
  | 63 => ⟨S_, .f32⟩
  | 64 => ⟨S1x768x1, .f32⟩
  | 65 => ⟨S1x768x1, .f32⟩
  | 66 => ⟨S1x768x256, .f32⟩
  | 67 => ⟨S1x768x256, .f32⟩
  | 68 => ⟨S_, .f32⟩
  | 69 => ⟨S1x768x1, .f32⟩
  | 70 => ⟨S1x768x1, .f32⟩
  | 71 => ⟨S1x768x1, .f32⟩
  | 72 => ⟨S1x768x256, .f32⟩
  | 73 => ⟨S1x768x256, .f32⟩
  | 74 => ⟨S1x1x256, .f32⟩
  | 75 => ⟨S1x768x256, .f32⟩
  | 76 => ⟨S1x768x256, .f32⟩
  | 77 => ⟨S1x1x256, .f32⟩
  | 78 => ⟨S1x768x256, .f32⟩
  | 79 => ⟨S1x768x256, .f32⟩
  | 80 => ⟨S1x768x1x3, .f32⟩
  | 81 => ⟨S1x1x768x3, .f32⟩
  | 82 => ⟨S1x768x768x3, .f32⟩
  | 83 => ⟨S1x768x768x3, .f32⟩
  | 84 => ⟨S1x768x768x3, .f32⟩
  | 85 => ⟨S1x768x768x3, .f32⟩
  | 86 => ⟨S_, .f32⟩
  | 87 => ⟨S1x768x768, .f32⟩
  | 88 => ⟨S1x768x768x1, .f32⟩
  | 89 => ⟨S1x1x1x15, .f32⟩
  | 90 => ⟨S1x768x768x15, .f32⟩
  | 91 => ⟨S1x768x768x15, .f32⟩
  | 92 => ⟨S1x768x768x15, .i1⟩
  | 93 => ⟨S1x1x1x15, .f32⟩
  | 94 => ⟨S1x768x768x15, .f32⟩
  | 95 => ⟨S1x768x768x15, .f32⟩
  | 96 => ⟨S1x768x768x15, .i1⟩
  | 97 => ⟨S1x768x768x15, .i1⟩
  | 98 => ⟨S1x768x768x15, .f32⟩
  | 99 => ⟨S1x768x768x128, .f32⟩
  | 100 => ⟨S1x1x1x128, .f32⟩
  | 101 => ⟨S1x768x768x128, .f32⟩
  | 102 => ⟨S1x768x768x128, .f32⟩
  | 103 => ⟨S_, .f32⟩
  | 104 => ⟨S1x768x768, .f32⟩
  | 105 => ⟨S1x768x768x1, .f32⟩
  | 106 => ⟨S_, .f32⟩
  | 107 => ⟨S1x768x768x1, .f32⟩
  | 108 => ⟨S1x768x768x1, .f32⟩
  | 109 => ⟨S_, .i32⟩
  | 110 => ⟨S_, .f32⟩
  | 111 => ⟨S1x768x768, .f32⟩
  | 112 => ⟨S1x768x768x1, .f32⟩
  | 113 => ⟨S_, .f32⟩
  | 114 => ⟨S1x768x768x1, .f32⟩
  | 115 => ⟨S1x768x768x1, .f32⟩
  | 116 => ⟨S1x768x768x128, .f32⟩
  | 117 => ⟨S1x768x768x128, .f32⟩
  | 118 => ⟨S1x768x768x128, .f32⟩
  | 119 => ⟨S_, .f32⟩
  | 120 => ⟨S_, .f32⟩
  | 121 => ⟨S_, .f32⟩
  | 122 => ⟨S_, .f32⟩
  | 123 => ⟨S1x768x768, .f32⟩
  | 124 => ⟨S1x768x768x1, .f32⟩
  | 125 => ⟨S1x768x768x1, .f32⟩
  | 126 => ⟨S1x768x768x1, .f32⟩
  | 127 => ⟨S_, .f32⟩
  | _ => ⟨S1x768x256, .f32⟩

abbrev hbmTy0_1 (i : Nat) : BufTy := match i % 128 with
  | 0 => ⟨S_, .i1⟩
  | 1 => ⟨S_, .f32⟩
  | 2 => ⟨S_, .f32⟩
  | 3 => ⟨S1x768x768x1, .f32⟩
  | 4 => ⟨S1x768x768x1, .f32⟩
  | 5 => ⟨S1x768x768x128, .f32⟩
  | 6 => ⟨S1x768x768x128, .f32⟩
  | 7 => ⟨S_, .f32⟩
  | 8 => ⟨S1x768x768x1, .f32⟩
  | 9 => ⟨S1x768x768x1, .f32⟩
  | 10 => ⟨S1x768x768x1, .f32⟩
  | 11 => ⟨S1x768x768x128, .f32⟩
  | 12 => ⟨S1x768x768x128, .f32⟩
  | 13 => ⟨S1x1x1x128, .f32⟩
  | 14 => ⟨S1x768x768x128, .f32⟩
  | 15 => ⟨S1x768x768x128, .f32⟩
  | 16 => ⟨S1x1x1x128, .f32⟩
  | 17 => ⟨S1x768x768x128, .f32⟩
  | 18 => ⟨S1x768x768x128, .f32⟩
  | 19 => ⟨S1x768x768x128, .f32⟩
  | 20 => ⟨S768x256, .f32⟩
  | 21 => ⟨S768x768x128, .f32⟩
  | _ => ⟨S1x768x256, .f32⟩

abbrev hbmTy (i : Nat) : BufTy := match i / 128 with
  | 0 => hbmTy0_0 i
  | 1 => hbmTy0_1 i
  | _ => ⟨S1x768x256, .f32⟩

abbrev bufTy : (tb : Table) → Fin (tcTables nBuf tb) → BufTy
  | .hbm, ⟨i, _⟩ => hbmTy i
  | _, _ => ⟨S1x768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_2 : Ref sig .tc := ⟨.hbm, 36, rfl⟩
abbrev main_v4 : Ref sig .tc := ⟨.hbm, 37, rfl⟩
abbrev main_v5 : Ref sig .tc := ⟨.hbm, 38, rfl⟩
abbrev main_cst_3 : Ref sig .tc := ⟨.hbm, 39, rfl⟩
abbrev main_v6 : Ref sig .tc := ⟨.hbm, 40, rfl⟩
abbrev main_v7 : Ref sig .tc := ⟨.hbm, 41, rfl⟩
abbrev main_c : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_cst_1 : Ref sig .tc := ⟨.hbm, 53, rfl⟩
abbrev main_call1_v8 : Ref sig .tc := ⟨.hbm, 54, rfl⟩
abbrev main_call1_cst_2 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_cst_3 : Ref sig .tc := ⟨.hbm, 60, rfl⟩
abbrev main_call1_v13 : Ref sig .tc := ⟨.hbm, 61, rfl⟩
abbrev main_call1_cst_4 : Ref sig .tc := ⟨.hbm, 62, rfl⟩
abbrev main_call1_call0_v0 : Ref sig .tc := ⟨.hbm, 63, rfl⟩
abbrev main_call1_call0_v1 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_cst_4 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_cst_5 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_cst_6 : Ref sig .tc := ⟨.hbm, 103, rfl⟩
abbrev main_v44 : Ref sig .tc := ⟨.hbm, 104, rfl⟩
abbrev main_v45 : Ref sig .tc := ⟨.hbm, 105, rfl⟩
abbrev main_cst_7 : Ref sig .tc := ⟨.hbm, 106, rfl⟩
abbrev main_v46 : Ref sig .tc := ⟨.hbm, 107, rfl⟩
abbrev main_v47 : Ref sig .tc := ⟨.hbm, 108, rfl⟩
abbrev main_c_8 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_v12 : Ref sig .tc := ⟨.hbm, 126, rfl⟩
abbrev main_call2_cst_3 : Ref sig .tc := ⟨.hbm, 127, rfl⟩
abbrev main_call2_v13 : Ref sig .tc := ⟨.hbm, 128, rfl⟩
abbrev main_call2_cst_4 : Ref sig .tc := ⟨.hbm, 129, rfl⟩
abbrev main_call2_call0_v0 : Ref sig .tc := ⟨.hbm, 130, rfl⟩
abbrev main_call2_call0_v1 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_cst_9 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩

abbrev nD : Nat := 1
abbrev τ : Topo := Topo.v7x

variable {F : FTy → Type} [FloatOps F]
-- ==== Proof.Block.lean ====
module

public import proofs.«01_k».proof.Proof.Gen.KernelIdeal.Loops
public import proofs.«01_k».proof.Proof.Gen.KernelIdeal.Frame
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What one grid point writes into its block of the pair result

The body walks its 64 rows eight at a time. `zchunk` is what one trip stores, `zblk` the whole block. -/

/-- What trip `k` stores: rows `8 k … 8 k + 7` of the block. -/
def zchunk (x0 : Vec F S64x128x128 .f32) (x1 : Vec F S64x3 .f32) (x2 : Vec F S3x128 .f32) (x4 : Vec F S16x128 .bf16)
    (x5 : Vec F S1x1x128 .f32) (x6 : Vec F S1x1x128 .f32) (x9 : Vec F S1x1x16 .f32) (x10 : Vec F S1x1x16 .f32)
    (k : Fin k0_t1_loop.trips) : Vec F S8x128x128 .f32 :=
  k0_pay5 x9 x10 x4
    (k0_pay6 (k0_pay2 x5) (k0_pay3 x6) (Scalar.ofBits .f32 0x3C000000#32)
      (View.ld x0 (Rect.unit (s := S64x128x128) (k0_off2 k) S8x128x128.size (k0_off2_inb k))))
    (k0_pay7 (k0_pay4 x2) (View.ld x1 (Rect.unit (s := S64x3) (k0_off1 k) S8x3.size (k0_off1_inb k))))
    (k0_pay8 (k0_pay4 x2) (View.ld x1 (Rect.unit (s := S64x3) (k0_off1 k) S8x3.size (k0_off1_inb k))))

/-- The loop makes eight trips. -/
theorem trips_eq : k0_t1_loop.trips = 8 := by decide +kernel

/-- The trip that writes row `r` of the block. -/
def chunkOf (r : Fin 64) : Fin k0_t1_loop.trips := ⟨r.val / 8, by rw [trips_eq]; omega⟩

/-- A block index inside the trip that writes it: the row modulo eight. -/
def inChunk (y : S64x128x128.Idx) : S8x128x128.Idx := fun a => match a with
  | 0 => ⟨(y 0).val % 8, Nat.mod_lt _ (by decide)⟩
  | 1 => y 1
  | 2 => y 2

/-- The whole block: each row from the trip that writes it. -/
def zblk (x0 : Vec F S64x128x128 .f32) (x1 : Vec F S64x3 .f32) (x2 : Vec F S3x128 .f32) (x4 : Vec F S16x128 .bf16)
    (x5 : Vec F S1x1x128 .f32) (x6 : Vec F S1x1x128 .f32) (x9 : Vec F S1x1x16 .f32) (x10 : Vec F S1x1x16 .f32) : Vec F S64x128x128 .f32 :=
  fun y => zchunk x0 x1 x2 x4 x5 x6 x9 x10 (chunkOf (y 0)) (inChunk y)

/-- The placement of trip `k`'s index `x` in the block lies in trip `k`'s rows, -/
theorem chunkOf_emb (k : Fin k0_t1_loop.trips) (x : S8x128x128.Idx) :
    chunkOf ((Rect.unit (s := S64x128x128) (k0_off2 k) S8x128x128.size (k0_off2_inb k)).emb x 0) = k := by
  have hx : (x 0).val < 8 := (x 0).isLt
  apply Fin.ext
  show (k0_off2 k 0 + 1 * (x 0).val) / 8 = k.val
  rw [k0_off2_eq k]
  show (8 * k.val + 1 * (x 0).val) / 8 = k.val
  omega

/-- at the position `x`. -/
theorem inChunk_emb (k : Fin k0_t1_loop.trips) (x : S8x128x128.Idx) :
    inChunk ((Rect.unit (s := S64x128x128) (k0_off2 k) S8x128x128.size (k0_off2_inb k)).emb x) = x := by
  have hx : (x 0).val < 8 := (x 0).isLt
  have e : k0_off2 k = ![8 * k.val, 0, 0] := k0_off2_eq k
  funext a
  apply Fin.ext
  fin_cases a
  · show (k0_off2 k 0 + 1 * (x 0).val) % 8 = (x 0).val
    rw [e]; show (8 * k.val + 1 * (x 0).val) % 8 = (x 0).val; omega
  · show k0_off2 k 1 + 1 * (x 1).val = (x 1).val
    rw [e]; show 0 + 1 * (x 1).val = (x 1).val; omega
  · show k0_off2 k 2 + 1 * (x 2).val = (x 2).val
    rw [e]; show 0 + 1 * (x 2).val = (x 2).val; omega

/-- Every trip stores its part of the block. -/
theorem zblk_emb (x0 : Vec F S64x128x128 .f32) (x1 : Vec F S64x3 .f32) (x2 : Vec F S3x128 .f32) (x4 : Vec F S16x128 .bf16)
    (x5 : Vec F S1x1x128 .f32) (x6 : Vec F S1x1x128 .f32) (x9 : Vec F S1x1x16 .f32) (x10 : Vec F S1x1x16 .f32)
    (k : Fin k0_t1_loop.trips) (x : S8x128x128.Idx) :
    zchunk x0 x1 x2 x4 x5 x6 x9 x10 k x
      = zblk x0 x1 x2 x4 x5 x6 x9 x10 ((Rect.unit (s := S64x128x128) (k0_off2 k) S8x128x128.size (k0_off2_inb k)).emb x) := by
  unfold zblk
  rw [chunkOf_emb, inChunk_emb]

section Loop

variable (𝒱 : Variants) (c : Dev nD) (bd : Option 𝒱.V) (i : grid0.Coords)
  (arg2 : Memref sig .tc .vmem S64x128x128 .f32) (harg2 : arg2.IsWhole)
  (arg3 : Memref sig .tc .vmem S64x3 .f32) (harg3 : arg3.IsWhole)
  (arg4 : Memref sig .tc .vmem S3x128 .f32) (harg4 : arg4.IsWhole)
  (arg5 : Memref sig .tc .vmem S64x256 .f32) (harg5 : arg5.IsWhole)
  (arg6 : Memref sig .tc .vmem S16x128 .bf16) (harg6 : arg6.IsWhole)
  (arg7 : Memref sig .tc .vmem S1x1x128 .f32) (harg7 : arg7.IsWhole)
  (arg8 : Memref sig .tc .vmem S1x1x128 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S1x1x16 .f32) (harg11 : arg11.IsWhole)
  (arg12 : Memref sig .tc .vmem S1x1x16 .f32) (harg12 : arg12.IsWhole)
  (arg13 : Memref sig .tc .vmem S64x128x128 .f32) (harg13 : arg13.IsWhole)
  (arg14 : Memref sig .tc .vmem S64x256 .f32) (harg14 : arg14.IsWhole)
  (x0 : Vec F S64x128x128 .f32) (x1 : Vec F S64x3 .f32) (x2 : Vec F S3x128 .f32) (x4 : Vec F S16x128 .bf16)
    (x5 : Vec F S1x1x128 .f32) (x6 : Vec F S1x1x128 .f32) (x9 : Vec F S1x1x16 .f32) (x10 : Vec F S1x1x16 .f32)

/-- The pieces of one trip: one piece, rows `8 k … 8 k + 7` with `zchunk`. -/
theorem tripL_eq (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 x5 x6 x9 x10 x4 x2 (Scalar.ofBits .f32 0x3C000000#32) (harg2.unread x0) (harg3.unread x1) k
      = [⟨Rect.unit (s := S64x128x128) (k0_off2 k) S8x128x128.size (k0_off2_inb k), zchunk x0 x1 x2 x4 x5 x6 x9 x10 k⟩] := by
  unfold tripL_k0_t1 trip_k0_t1
  dsimp only
  sl_unfold_run_names
  simp only [View.readAt_eq_ld, Memref.IsWhole.read_unread]
  rfl

/-- The pieces of the first `n` trips: each agrees with `zblk`, and together they cover the rows before `8 n`. -/
theorem pb_spec (n : ℕ) (hn : n ≤ k0_t1_loop.trips) :
    (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 x5 x6 x9 x10 x4 x2 (Scalar.ofBits .f32 0x3C000000#32) (harg2.unread x0) (harg3.unread x1) n,
        ∀ x : p.1.shape.Idx, p.2 x = zblk x0 x1 x2 x4 x5 x6 x9 x10 (p.1.emb x))
    ∧ (∀ y : S64x128x128.Idx, (y 0).val < 8 * n →
        ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 x5 x6 x9 x10 x4 x2 (Scalar.ofBits .f32 0x3C000000#32) (harg2.unread x0) (harg3.unread x1) n, y ∈ p.1.set) := by
  induction n with
  | zero =>
    refine ⟨fun p hp => absurd hp List.not_mem_nil, fun y hy => absurd hy (by omega)⟩
  | succ n ih =>
    obtain ⟨ih1, ih2⟩ := ih (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 x5 x6 x9 x10 x4 x2 (Scalar.ofBits .f32 0x3C000000#32) (harg2.unread x0) (harg3.unread x1) ⟨n, hn⟩
    rw [tripL_eq] at hs
    dsimp only at hs
    rw [hs]
    constructor
    · intro p hp
      rcases List.mem_append.1 hp with h | h
      · obtain rfl := List.mem_singleton.1 h
        exact fun x => zblk_emb x0 x1 x2 x4 x5 x6 x9 x10 ⟨n, hn⟩ x
      · exact ih1 p h
    · intro y hy
      by_cases h : (y 0).val < 8 * n
      · obtain ⟨p, hp, hm⟩ := ih2 y h
        exact ⟨p, List.mem_append.2 (.inr hp), hm⟩
      · refine ⟨_, List.mem_append.2 (.inl (List.mem_singleton.2 rfl)), ?_⟩
        rw [Rect.mem_set_unit, k0_off2_eq]
        intro a
        fin_cases a
        · show 8 * n ≤ (y 0).val ∧ (y 0).val < 8 * n + 8
          omega
        · exact ⟨Nat.zero_le _, by show (y 1).val < 0 + 128; have := (y 1).isLt; simpa using this⟩
        · exact ⟨Nat.zero_le _, by show (y 2).val < 0 + 128; have := (y 2).isLt; simpa using this⟩

/-- What a buffer reads after the loop wrote its pieces over anything: the block. -/
theorem read_pb (v : View sig .tc .vmem S64x128x128 .f32) (f : v.ty.Contents (Elt F)) :
    v.read (Elt F) (v.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 x5 x6 x9 x10 x4 x2 (Scalar.ofBits .f32 0x3C000000#32) (harg2.unread x0) (harg3.unread x1) k0_t1_loop.trips))
      = zblk x0 x1 x2 x4 x5 x6 x9 x10 := by
  have h := pb_spec 𝒱 c bd i arg2 harg2 arg3 harg3 arg4 harg4 arg5 harg5 arg6 harg6 arg7 harg7 arg8 harg8 arg9 harg9 arg10 harg10 arg11 harg11 arg12 harg12 arg13 harg13 arg14 harg14 x0 x1 x2 x4 x5 x6 x9 x10 k0_t1_loop.trips le_rfl
  funext y
  refine View.read_writes_apply_of_pieces v f (zblk x0 x1 x2 x4 x5 x6 x9 x10) _ h.1 y (h.2 y ?_)
  rw [trips_eq]
  exact (y 0).isLt

end Loop

end Cert.KernelIdeal.Hand

end
-- ==== Proof.Body.lean ====
module

public import proofs.«01_k».proof.Proof.Block
public import Idealize.ShloMosaic.Lib.Ring
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The kernel body at one grid point, its staging memrefs arbitrary

Two cases: at the first point of a row of the grid the body also writes the row's block of the other result; at
every other point it leaves that block alone. -/

local notation "𝕄" => MT nD τ sig Unit (Elt F) ℕ (UR sig nD τ) ℕ

/-- The body's condition: the second grid coordinate is zero. -/
abbrev first (i : grid0.Coords) : Prop := k0_cond1 i = 1#1

/-- Reading a whole shape from the origin reads everything. -/
theorem ld_full {Val : EltTy → Type} {e : EltTy} {s : Shape} {off : Fin s.rank → ℕ} (inb : ∀ a, off a + s.size a ≤ s.size a)
    (X : s.Idx → Val e) : View.ld X (Rect.unit (s := s) off (no_index s.size) inb) = X :=
  View.ld_unit_zero (funext fun a => by have := inb a; omega) inb X

/-- A store of a whole shape from the origin leaves its payload. -/
theorem read_whole {e : EltTy} {s : Shape} {sp : Space} (v : View sig .tc sp s e) (f : v.ty.Contents (Elt F)) {off : Fin s.rank → ℕ}
    (inb : ∀ a, off a + s.size a ≤ s.size a) (w : s.Idx → Elt F e) :
    v.read (Elt F) (v.writes (Elt F) f [⟨Rect.unit (s := s) off s.size inb, w⟩]) = w :=
  funext fun y => View.read_writes_cons_hit_of_coords v f (Rect.unit (s := s) off s.size inb) w [] y y (fun a => by
    have := inb a
    show (y a).val = off a + 1 * (y a).val
    omega)

set_option maxHeartbeats 1000000 in
/-- The body at the first point of a row of the grid: both blocks are written. -/
theorem bodyA (c : Dev nD) (i : grid0.Coords)
    (arg2 : Memref sig .tc .vmem S64x128x128 .f32) (harg2 : arg2.IsWhole)
  (arg3 : Memref sig .tc .vmem S64x3 .f32) (harg3 : arg3.IsWhole)
  (arg4 : Memref sig .tc .vmem S3x128 .f32) (harg4 : arg4.IsWhole)
  (arg5 : Memref sig .tc .vmem S64x256 .f32) (harg5 : arg5.IsWhole)
  (arg6 : Memref sig .tc .vmem S16x128 .bf16) (harg6 : arg6.IsWhole)
  (arg7 : Memref sig .tc .vmem S1x1x128 .f32) (harg7 : arg7.IsWhole)
  (arg8 : Memref sig .tc .vmem S1x1x128 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S1x1x16 .f32) (harg11 : arg11.IsWhole)
  (arg12 : Memref sig .tc .vmem S1x1x16 .f32) (harg12 : arg12.IsWhole)
  (arg13 : Memref sig .tc .vmem S64x128x128 .f32) (harg13 : arg13.IsWhole)
  (arg14 : Memref sig .tc .vmem S64x256 .f32) (harg14 : arg14.IsWhole)
    (hc0 : first i)
    (x0 : Vec F S64x128x128 .f32) (x1 : Vec F S64x3 .f32) (x2 : Vec F S3x128 .f32) (x3 : Vec F S64x256 .f32) (x4 : Vec F S16x128 .bf16)
    (x5 : Vec F S1x1x128 .f32) (x6 : Vec F S1x1x128 .f32) (x7 : Vec F S1x256 .f32) (x8 : Vec F S1x256 .f32) (x9 : Vec F S1x1x16 .f32) (x10 : Vec F S1x1x16 .f32)
    (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ (∃ d, owns (c : Thread nD τ) arg13 fullShare d) ∗ (∃ d, owns (c : Thread nD τ) arg14 fullShare d)
      ∗ (iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ owns (c : Thread nD τ) arg13 fullShare (zblk x0 x1 x2 x4 x5 x6 x9 x10) ∗ owns (c : Thread nD τ) arg14 fullShare (k0_pay1 x3 x7 x8)) -∗ K ⟨⟩))
    ⊢ wp frame (wpE (defs₀ (F := F)) Variants.none c none) E (cc0_recycling_embedder_fused i arg2 harg2 arg3 harg3 arg4 harg4 arg5 harg5 arg6 harg6 arg7 harg7 arg8 harg8 arg9 harg9 arg10 harg10 arg11 harg11 arg12 harg12 arg13 harg13 arg14 harg14) K := by
  simp only [cc0_recycling_embedder_fused_eq_skeleton]; unfold cc0_recycling_embedder_fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    sl_unfold_run_names
    simp only [View.readAt_eq_ld, Memref.IsWhole.read_unread]
    simp only [ld_full]
    exact read_pb _ _ _ _ _ _ _ _ _ _ _ _ _ _ _ _ _ _ _ _ _ _ _ _ _ _ _ _ _ _ _ _ _ _ _ _ _ _ _ _
  iexists _; isplitr; swap; · iexact H12
  ipureintro
  sl_unfold_run_names
  simp only [View.readAt_eq_ld, Memref.IsWhole.read_unread]
  simp only [ld_full]
  exact read_whole _ _ _ _

set_option maxHeartbeats 1000000 in
/-- The body at any other point: the pair block is written, the other block stays. -/
theorem bodyB (c : Dev nD) (i : grid0.Coords)
    (arg2 : Memref sig .tc .vmem S64x128x128 .f32) (harg2 : arg2.IsWhole)
  (arg3 : Memref sig .tc .vmem S64x3 .f32) (harg3 : arg3.IsWhole)
  (arg4 : Memref sig .tc .vmem S3x128 .f32) (harg4 : arg4.IsWhole)
  (arg5 : Memref sig .tc .vmem S64x256 .f32) (harg5 : arg5.IsWhole)
  (arg6 : Memref sig .tc .vmem S16x128 .bf16) (harg6 : arg6.IsWhole)
  (arg7 : Memref sig .tc .vmem S1x1x128 .f32) (harg7 : arg7.IsWhole)
  (arg8 : Memref sig .tc .vmem S1x1x128 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S1x1x16 .f32) (harg11 : arg11.IsWhole)
  (arg12 : Memref sig .tc .vmem S1x1x16 .f32) (harg12 : arg12.IsWhole)
  (arg13 : Memref sig .tc .vmem S64x128x128 .f32) (harg13 : arg13.IsWhole)
  (arg14 : Memref sig .tc .vmem S64x256 .f32) (harg14 : arg14.IsWhole)
    (hc0 : ¬ first i)
    (x0 : Vec F S64x128x128 .f32) (x1 : Vec F S64x3 .f32) (x2 : Vec F S3x128 .f32) (x3 : Vec F S64x256 .f32) (x4 : Vec F S16x128 .bf16)
    (x5 : Vec F S1x1x128 .f32) (x6 : Vec F S1x1x128 .f32) (x7 : Vec F S1x256 .f32) (x8 : Vec F S1x256 .f32) (x9 : Vec F S1x1x16 .f32) (x10 : Vec F S1x1x16 .f32) (xo : Vec F S64x256 .f32)
    (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ (∃ d, owns (c : Thread nD τ) arg13 fullShare d) ∗ owns (c : Thread nD τ) arg14 fullShare xo
      ∗ (iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ owns (c : Thread nD τ) arg13 fullShare (zblk x0 x1 x2 x4 x5 x6 x9 x10) ∗ owns (c : Thread nD τ) arg14 fullShare xo) -∗ K ⟨⟩))
    ⊢ wp frame (wpE (defs₀ (F := F)) Variants.none c none) E (cc0_recycling_embedder_fused i arg2 harg2 arg3 harg3 arg4 harg4 arg5 harg5 arg6 harg6 arg7 harg7 arg8 harg8 arg9 harg9 arg10 harg10 arg11 harg11 arg12 harg12 arg13 harg13 arg14 harg14) K := by
  simp only [cc0_recycling_embedder_fused_eq_skeleton]; unfold cc0_recycling_embedder_fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    sl_unfold_run_names
    simp only [View.readAt_eq_ld, Memref.IsWhole.read_unread]
    simp only [ld_full]
    exact read_pb _ _ _ _ _ _ _ _ _ _ _ _ _ _ _ _ _ _ _ _ _ _ _ _ _ _ _ _ _ _ _ _ _ _ _ _ _ _ _ _
  iexists _; isplitr; swap; · iexact H12
  ipureintro; exact hf12

end Cert.KernelIdeal.Hand

end
-- ==== Proof.Launch.lean ====
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Pipeline.TableIdle
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The launch: what every window's buffer holds at every grid point, the run, the frame -/

local notation "𝕄" => MT nD τ sig Unit (Elt F) ℕ (UR sig nD τ) ℕ

variable (m : (ℓ : Loc nD τ sig) → Buf (Elt F) ℓ) (ρ : Dev nD → PrngReg)

/-- A point is the first of its row exactly when its number is a multiple of six. -/
theorem first_iff (t : Fin cfg0.N) : first (grid0.coords t) ↔ t.val % 6 = 0 := by
  have ht : t.val < 72 := Nat.lt_of_lt_of_eq t.isLt N_0
  have e0 : (grid0.coords t 0).val = t.val / 6 % 12 := Pipeline.Grid.coords_val t 0 (by decide) rfl
  have e1 : (grid0.coords t 1).val = t.val / 1 % 6 := Pipeline.Grid.coords_val t 1 (by decide) rfl
  simp only [first, k0_cond1, e0, e1]
  word_cmp

/-- The configuration calls the second output idle exactly at the other points. -/
theorem idle12_iff (t : Fin cfg0.N) : cfg0.idle 12 (grid0.coords t) = true ↔ ¬ first (grid0.coords t) := by
  show (!(k0_cond1 (grid0.coords t) == 1#1)) = true ↔ ¬ k0_cond1 (grid0.coords t) = 1#1
  rw [Bool.not_eq_true', beq_eq_false_iff_ne]

/-- The first point of `t`'s row of the grid. -/
def rowStart (t : Fin cfg0.N) : Fin cfg0.N := ⟨t.val - t.val % 6, Nat.lt_of_le_of_lt (Nat.sub_le _ _) t.isLt⟩

/-- After the first point the second output's buffer holds something stored since its last write-back. -/
def fresh12 : ℕ → Bool := fun n => n % 6 == 0

theorem fresh12_step (t : Fin cfg0.N) :
    fresh12 (t.val + 1) = ((cfg0.win 12).flush t || (cfg0.idle 12 (cfg0.grid.coords t) && fresh12 t.val)) := by
  have ht : t.val < 72 := Nat.lt_of_lt_of_eq t.isLt N_0
  have hf := flush0_12 t
  have hi : cfg0.idle 12 (cfg0.grid.coords t) = true ↔ ¬ t.val % 6 = 0 := (idle12_iff t).trans (not_congr (first_iff t))
  rw [Bool.eq_iff_iff, Bool.or_eq_true, Bool.and_eq_true, hf, hi]
  unfold fresh12
  rw [beq_iff_eq, beq_iff_eq]
  omega

theorem fresh12_eq (t : Fin cfg0.N) : cfg0.fresh 12 t.val = fresh12 t.val :=
  Pipeline.Cfg.fresh_tab cfg0 12 fresh12 rfl fresh12_step t.val (Nat.le_of_lt t.isLt)

/-- The pair block of point `t`. -/
def zat (c : Dev nD) (t : Fin cfg0.N) : Vec F S64x128x128 .f32 :=
  zblk (iblk m c 0 t) (iblk m c 1 t) (iblk m c 2 t) (iblk m c 4 t) (iblk m c 5 t) (iblk m c 6 t) (iblk m c 9 t) (iblk m c 10 t)

/-- The other block of point `t`: what the first point of its row wrote. -/
def mat (c : Dev nD) (t : Fin cfg0.N) : Vec F S64x256 .f32 :=
  k0_pay1 (iblk m c 3 (rowStart t)) (iblk m c 7 (rowStart t)) (iblk m c 8 (rowStart t))

/-- The proof data: the arrays as the region finds them, every input's buffer at its block, the outputs' at `zat`
    and `mat`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => zat m c t
    | ⟨12, _⟩ => mat m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = zat m c t := by dsimp only [dats]
theorem after_12 (c : Dev nD) (t : Fin cfg0.N) : (dats m 0 c).after 12 t = mat m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- Two neighbouring points of one row of the grid have the same other block. -/
theorem mat_prev (c : Dev nD) (t : Fin cfg0.N) (h : ¬ t.val % 6 = 0) :
    mat m c t = mat m c ⟨t.val - 1, Nat.lt_of_le_of_lt (Nat.sub_le _ _) t.isLt⟩ := by
  have e : rowStart t = rowStart ⟨t.val - 1, Nat.lt_of_le_of_lt (Nat.sub_le _ _) t.isLt⟩ := by
    apply Fin.ext
    show t.val - t.val % 6 = (t.val - 1) - (t.val - 1) % 6
    omega
  unfold mat
  rw [e]

/-- Where the body does not write the second output, its buffer holds what its row's first point wrote. -/
theorem before_12 (c : Dev nD) (t : Fin cfg0.N) (h : ¬ t.val % 6 = 0) (d) : (dats m 0 c).before 12 t d = mat m c t := by
  rw [Dat.before_out_traj _ 12 rfl (fun _ _ => rfl) (fun t _ hi _ => by
      rw [after_12, after_12]
      exact mat_prev m c t (fun h0 => (idle12_iff t).1 hi ((first_iff t).2 h0))) t.val t rfl d,
    if_neg (by
      rw [fresh12_eq t]
      unfold fresh12
      rw [beq_iff_eq]
      exact h), after_12]
  exact (mat_prev m c t h).symm

/-! ## The body obligation -/

abbrev stg0 (t : Fin cfg0.N) : Memref sig .tc .vmem S64x128x128 .f32 := win0_0.stage (cfg0.slots t 0)
abbrev stg1 (t : Fin cfg0.N) : Memref sig .tc .vmem S64x3 .f32 := win0_1.stage (cfg0.slots t 1)
abbrev stg2 (t : Fin cfg0.N) : Memref sig .tc .vmem S3x128 .f32 := win0_2.stage (cfg0.slots t 2)
abbrev stg3 (t : Fin cfg0.N) : Memref sig .tc .vmem S64x256 .f32 := win0_3.stage (cfg0.slots t 3)
abbrev stg4 (t : Fin cfg0.N) : Memref sig .tc .vmem S16x128 .bf16 := win0_4.stage (cfg0.slots t 4)
abbrev stg5 (t : Fin cfg0.N) : Memref sig .tc .vmem S1x1x128 .f32 := win0_5.stage (cfg0.slots t 5)
abbrev stg6 (t : Fin cfg0.N) : Memref sig .tc .vmem S1x1x128 .f32 := win0_6.stage (cfg0.slots t 6)
abbrev stg7 (t : Fin cfg0.N) : Memref sig .tc .vmem S1x256 .f32 := win0_7.stage (cfg0.slots t 7)
abbrev stg8 (t : Fin cfg0.N) : Memref sig .tc .vmem S1x256 .f32 := win0_8.stage (cfg0.slots t 8)
abbrev stg9 (t : Fin cfg0.N) : Memref sig .tc .vmem S1x1x16 .f32 := win0_9.stage (cfg0.slots t 9)
abbrev stg10 (t : Fin cfg0.N) : Memref sig .tc .vmem S1x1x16 .f32 := win0_10.stage (cfg0.slots t 10)
abbrev stg11 (t : Fin cfg0.N) : Memref sig .tc .vmem S64x128x128 .f32 := win0_11.stage (cfg0.slots t 11)
abbrev stg12 (t : Fin cfg0.N) : Memref sig .tc .vmem S64x256 .f32 := win0_12.stage (cfg0.slots t 12)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_0 (c : Dev nD) (t : Fin cfg0.N) :
    (dats m 0 c).leavesExact 0 t = owns (c : Thread nD τ) (stg0 t) fullShare (iblk m c 0 t) := by
  rw [show (dats m 0 c).leavesExact 0 t = owns (c : Thread nD τ) (stg0 t) fullShare ((dats m 0 c).after 0 t) from by
    unfold Dat.leavesExact; rw [show cfg0.idle 0 (cfg0.grid.coords t) = false from rfl], after_0]

theorem leaves_1 (c : Dev nD) (t : Fin cfg0.N) :
    (dats m 0 c).leavesExact 1 t = owns (c : Thread nD τ) (stg1 t) fullShare (iblk m c 1 t) := by
  rw [show (dats m 0 c).leavesExact 1 t = owns (c : Thread nD τ) (stg1 t) fullShare ((dats m 0 c).after 1 t) from by
    unfold Dat.leavesExact; rw [show cfg0.idle 1 (cfg0.grid.coords t) = false from rfl], after_1]

theorem leaves_2 (c : Dev nD) (t : Fin cfg0.N) :
    (dats m 0 c).leavesExact 2 t = owns (c : Thread nD τ) (stg2 t) fullShare (iblk m c 2 t) := by
  rw [show (dats m 0 c).leavesExact 2 t = owns (c : Thread nD τ) (stg2 t) fullShare ((dats m 0 c).after 2 t) from by
    unfold Dat.leavesExact; rw [show cfg0.idle 2 (cfg0.grid.coords t) = false from rfl], after_2]

theorem leaves_3 (c : Dev nD) (t : Fin cfg0.N) :
    (dats m 0 c).leavesExact 3 t = owns (c : Thread nD τ) (stg3 t) fullShare (iblk m c 3 t) := by
  rw [show (dats m 0 c).leavesExact 3 t = owns (c : Thread nD τ) (stg3 t) fullShare ((dats m 0 c).after 3 t) from by
    unfold Dat.leavesExact; rw [show cfg0.idle 3 (cfg0.grid.coords t) = false from rfl], after_3]

theorem leaves_4 (c : Dev nD) (t : Fin cfg0.N) :
    (dats m 0 c).leavesExact 4 t = owns (c : Thread nD τ) (stg4 t) fullShare (iblk m c 4 t) := by
  rw [show (dats m 0 c).leavesExact 4 t = owns (c : Thread nD τ) (stg4 t) fullShare ((dats m 0 c).after 4 t) from by
    unfold Dat.leavesExact; rw [show cfg0.idle 4 (cfg0.grid.coords t) = false from rfl], after_4]

theorem leaves_5 (c : Dev nD) (t : Fin cfg0.N) :
    (dats m 0 c).leavesExact 5 t = owns (c : Thread nD τ) (stg5 t) fullShare (iblk m c 5 t) := by
  rw [show (dats m 0 c).leavesExact 5 t = owns (c : Thread nD τ) (stg5 t) fullShare ((dats m 0 c).after 5 t) from by
    unfold Dat.leavesExact; rw [show cfg0.idle 5 (cfg0.grid.coords t) = false from rfl], after_5]

theorem leaves_6 (c : Dev nD) (t : Fin cfg0.N) :
    (dats m 0 c).leavesExact 6 t = owns (c : Thread nD τ) (stg6 t) fullShare (iblk m c 6 t) := by
  rw [show (dats m 0 c).leavesExact 6 t = owns (c : Thread nD τ) (stg6 t) fullShare ((dats m 0 c).after 6 t) from by
    unfold Dat.leavesExact; rw [show cfg0.idle 6 (cfg0.grid.coords t) = false from rfl], after_6]

theorem leaves_7 (c : Dev nD) (t : Fin cfg0.N) :
    (dats m 0 c).leavesExact 7 t = owns (c : Thread nD τ) (stg7 t) fullShare (iblk m c 7 t) := by
  rw [show (dats m 0 c).leavesExact 7 t = owns (c : Thread nD τ) (stg7 t) fullShare ((dats m 0 c).after 7 t) from by
    unfold Dat.leavesExact; rw [show cfg0.idle 7 (cfg0.grid.coords t) = false from rfl], after_7]

theorem leaves_8 (c : Dev nD) (t : Fin cfg0.N) :
    (dats m 0 c).leavesExact 8 t = owns (c : Thread nD τ) (stg8 t) fullShare (iblk m c 8 t) := by
  rw [show (dats m 0 c).leavesExact 8 t = owns (c : Thread nD τ) (stg8 t) fullShare ((dats m 0 c).after 8 t) from by
    unfold Dat.leavesExact; rw [show cfg0.idle 8 (cfg0.grid.coords t) = false from rfl], after_8]

theorem leaves_9 (c : Dev nD) (t : Fin cfg0.N) :
    (dats m 0 c).leavesExact 9 t = owns (c : Thread nD τ) (stg9 t) fullShare (iblk m c 9 t) := by
  rw [show (dats m 0 c).leavesExact 9 t = owns (c : Thread nD τ) (stg9 t) fullShare ((dats m 0 c).after 9 t) from by
    unfold Dat.leavesExact; rw [show cfg0.idle 9 (cfg0.grid.coords t) = false from rfl], after_9]

theorem leaves_10 (c : Dev nD) (t : Fin cfg0.N) :
    (dats m 0 c).leavesExact 10 t = owns (c : Thread nD τ) (stg10 t) fullShare (iblk m c 10 t) := by
  rw [show (dats m 0 c).leavesExact 10 t = owns (c : Thread nD τ) (stg10 t) fullShare ((dats m 0 c).after 10 t) from by
    unfold Dat.leavesExact; rw [show cfg0.idle 10 (cfg0.grid.coords t) = false from rfl], after_10]

theorem leaves_11 (c : Dev nD) (t : Fin cfg0.N) :
    (dats m 0 c).leavesExact 11 t = owns (c : Thread nD τ) (stg11 t) fullShare (zat m c t) := by
  rw [show (dats m 0 c).leavesExact 11 t = owns (c : Thread nD τ) (stg11 t) fullShare ((dats m 0 c).after 11 t) from by
    unfold Dat.leavesExact; rw [show cfg0.idle 11 (cfg0.grid.coords t) = false from rfl], after_11]

/-- At its row's first point the second output is left with the row's block; -/
theorem leaves_12_first (c : Dev nD) (t : Fin cfg0.N) (h : t.val % 6 = 0) :
    (dats m 0 c).leavesExact 12 t = owns (c : Thread nD τ) (stg12 t) fullShare (mat m c t) := by
  rw [show (dats m 0 c).leavesExact 12 t = owns (c : Thread nD τ) (stg12 t) fullShare ((dats m 0 c).after 12 t) from by
    unfold Dat.leavesExact
    rw [show cfg0.idle 12 (cfg0.grid.coords t) = false from
      Bool.eq_false_iff.2 (fun hi => (idle12_iff t).1 hi ((first_iff t).2 h))], after_12]

/-- at any other point it may be left with what it was found with. -/
theorem leaves_12_rest (c : Dev nD) (t : Fin cfg0.N) (h : ¬ t.val % 6 = 0) :
    owns (c : Thread nD τ) (stg12 t) fullShare (mat m c t) ⊢ (dats m 0 c).leavesExact 12 t := by
  have hi : cfg0.idle 12 (cfg0.grid.coords t) = true := (idle12_iff t).2 (fun h0 => h ((first_iff t).1 h0))
  by_cases hf : (cfg0.win 12).flush t = true
  · rw [show (dats m 0 c).leavesExact 12 t = owns (c : Thread nD τ) (stg12 t) fullShare ((dats m 0 c).after 12 t) from by
      unfold Dat.leavesExact; rw [hi, hf], after_12]
  · rw [Dat.leavesExact_idle _ 12 t hi (Bool.eq_false_iff.2 hf)]
    iintro H
    iexists (fun _ => Classical.arbitrary _)
    rw [before_12 m c t h]
    iexact H

set_option maxHeartbeats 2400000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    leaves_0 m c t, leaves_1 m c t, leaves_2 m c t, leaves_3 m c t, leaves_4 m c t, leaves_5 m c t, leaves_6 m c t, leaves_7 m c t, leaves_8 m c t, leaves_9 m c t, leaves_10 m c t, leaves_11 m c t]
  by_cases h0 : t.val % 6 = 0
  · have er : rowStart t = t := by apply Fin.ext; show t.val - t.val % 6 = t.val; omega
    rw [leaves_12_first m c t h0]
    unfold zat mat
    rw [er]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyA c (grid0.coords t) _ _ _ _ _ _ _ _ _ _ _ _ _ _ _ _ _ _ _ _ _ _ _ _ _ _ ((first_iff t).2 h0) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · simp only [before_12 m c t h0]
    unfold zat
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyB c (grid0.coords t) _ _ _ _ _ _ _ _ _ _ _ _ _ _ _ _ _ _ _ _ _ _ _ _ _ _ (fun h => h0 ((first_iff t).1 h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (mat m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iapply (leaves_12_rest m c t h0)
    iexact H12

theorem defs₀_at (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_at]
  exact triple_restated (sound_body m c t) rfl .rfl fun _ => .rfl

/-! ## The run and the frame -/

set_option backward.isDefEq.respectTransparency.types false in
/-- Every run of the program ends with every array of the pipeline at what the proof data computes, and every
    counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Spec.lean ====
module

public import Idealize.ShloMosaic.PureOps
public import Idealize.ShloMosaic.Lib.Pointwise

@[expose] public section

noncomputable section

namespace Cert.Spec

open Idealize.ShloMosaic

/-! # The two results at one element, over extended reals

No program occurs here: an element of a result is a function of the few rows it depends on. The kernel's form of the pair
result and the reference's form are stated separately, and `pair_eq` proves them equal when the row is finite. -/

/-- The small number both programs add to a variance. -/
abbrev eps : EReal := Ideal.ofBits .f32 0x3727C5AC#32

/-- A row's normalization as both programs compute it: deviation from the mean times the reciprocal root of the mean
    squared deviation plus `eps`; `n` is the literal the sums are divided by. -/
def norm {d : Nat} (n : EReal) (f : Fin d → EReal) (k : Fin d) : EReal :=
  (f k - Ideal.div (∑ x, f x) n)
    * Ideal.rsqrt (Ideal.div (∑ x, (f x - Ideal.div (∑ x, f x) n) * (f x - Ideal.div (∑ x, f x) n)) n + eps)

/-- The row's normalization as the kernel computes it for a pair: the variance is the mean square less the squared mean,
    and a mean is a product with the literal `q`. -/
def normSq {d : Nat} (q : EReal) (f : Fin d → EReal) (k : Fin d) : EReal :=
  (f k - (∑ x, f x) * q)
    * Ideal.rsqrt ((∑ x, f x * f x) * q - (∑ x, f x) * q * ((∑ x, f x) * q) + eps)

/-- The squared distance of two points of space, summed left to right. -/
def dist2 (p q : Fin 3 → EReal) : EReal :=
  (p 0 - q 0) * (p 0 - q 0) + (p 1 - q 1) * (p 1 - q 1) + (p 2 - q 2) * (p 2 - q 2)

/-- One when a number lies strictly between two edges, else zero. -/
def hot (d lo up : EReal) : EReal := if lo < d then if d < up then 1 else 0 else 0

/-- Fifteen numbers continued by one more. -/
def snoc (f : Fin 15 → EReal) (e : EReal) (x : Fin 16) : EReal := if h : x.val < 15 then f ⟨x.val, h⟩ else e

/-- An element of the pair result as the kernel computes it, over sixteen bins. -/
def pairK (f : Fin 128 → EReal) (g b : EReal) (p q : Fin 3 → EReal) (lo up w : Fin 16 → EReal) (k : Fin 128) : EReal :=
  normSq (Ideal.ofBits .f32 0x3C000000#32) f k * g + b + ∑ x, hot (dist2 p q) (lo x) (up x) * w x

/-- An element of the pair result as the reference computes it, over fifteen bins. -/
def pairR (f : Fin 128 → EReal) (g be bl : EReal) (p q : Fin 3 → EReal) (lo up w : Fin 15 → EReal) (k : Fin 128) : EReal :=
  (∑ x, hot (dist2 p q) (lo x) (up x) * w x) + bl + (norm (Ideal.ofBits .f32 0x43000000#32) f k * g + be)

/-! ## Literals -/

theorem n128_eq : Ideal.ofBits .f32 0x43000000#32 = ((128 : ℝ) : EReal) := by
  simp [Ideal.ofBits, Ideal.ieee, -EReal.coe_mul]; norm_num

theorem q128_eq : Ideal.ofBits .f32 0x3C000000#32 = ((1 / 128 : ℝ) : EReal) := by
  simp [Ideal.ofBits, Ideal.ieee, -EReal.coe_mul]; norm_num

theorem n256_eq : Ideal.ofBits .f32 0x43800000#32 = ((256 : ℝ) : EReal) := by
  simp [Ideal.ofBits, Ideal.ieee, -EReal.coe_mul]; norm_num

/-- The count of a row's elements exceeds zero, -/
theorem n128_pos : (0 : EReal) < Ideal.ofBits .f32 0x43000000#32 := by
  rw [n128_eq]; exact_mod_cast (by norm_num : (0 : ℝ) < 128)

theorem n256_pos : (0 : EReal) < Ideal.ofBits .f32 0x43800000#32 := by
  rw [n256_eq]; exact_mod_cast (by norm_num : (0 : ℝ) < 256)

/-- and nothing is taken off it. -/
theorem sint_zero : FloatOps.sitofp (F := Ideal) .f32 (0#32 : BitVec 32) = (0 : EReal) := by
  show ((((0#32 : BitVec 32).toInt : ℤ) : ℝ) : EReal) = 0
  simp

/-! ## The normalizations agree on a finite row -/

/-- A sum of real numbers, taken among the extended reals. -/
theorem coe_sum {d : Nat} (g : Fin d → ℝ) : ∑ k, ((g k : ℝ) : EReal) = ((∑ k, g k : ℝ) : EReal) :=
  (map_sum (⟨⟨fun r : ℝ => (r : EReal), EReal.coe_zero⟩, EReal.coe_add⟩ : ℝ →+ EReal) g Finset.univ).symm

/-- Mean square less squared mean is the mean squared deviation. -/
theorem var_eq (g : Fin 128 → ℝ) :
    (∑ k, g k * g k) * (1 / 128) - (∑ k, g k) * (1 / 128) * ((∑ k, g k) * (1 / 128))
      = (∑ k, (g k - (∑ x, g x) * (1 / 128)) * (g k - (∑ x, g x) * (1 / 128))) * (1 / 128) := by
  generalize hS : ∑ k, g k = S
  have h : ∑ k, (g k - S * (1 / 128)) * (g k - S * (1 / 128))
      = (∑ k, g k * g k) - 2 * (S * (1 / 128)) * S + 128 * ((S * (1 / 128)) * (S * (1 / 128))) := by
    have e : ∀ k, (g k - S * (1 / 128)) * (g k - S * (1 / 128))
        = g k * g k - 2 * (S * (1 / 128)) * g k + (S * (1 / 128)) * (S * (1 / 128)) := fun k => by ring
    simp only [e, Finset.sum_add_distrib, Finset.sum_sub_distrib, ← Finset.mul_sum, hS, Finset.sum_const, Finset.card_univ,
      Fintype.card_fin, nsmul_eq_mul]
    push_cast
    ring
  rw [h]
  ring

/-- On a finite row the kernel's normalization is the reference's. -/
theorem normSq_eq (f : Fin 128 → EReal) (hf : ∀ k, ∃ r : ℝ, f k = (r : EReal)) (k : Fin 128) :
    normSq (Ideal.ofBits .f32 0x3C000000#32) f k = norm (Ideal.ofBits .f32 0x43000000#32) f k := by
  choose g hg using hf
  obtain rfl : f = fun k => (g k : EReal) := funext hg
  unfold normSq norm
  rw [n128_eq, q128_eq]
  simp only [Ideal.div_coe (show (128 : ℝ) ≠ 0 by norm_num), coe_sum, ← EReal.coe_mul, ← EReal.coe_sub, var_eq]

/-! ## The bins -/

/-- Sixteen bins, the last with weight zero, count as the first fifteen. -/
theorem sum_snoc (d : EReal) (lo up w : Fin 15 → EReal) (e e' : EReal) :
    ∑ x, hot d (snoc lo e x) (snoc up e' x) * snoc w 0 x = ∑ x, hot d (lo x) (up x) * w x := by
  rw [Fin.sum_univ_castSucc]
  have h : ∀ x : Fin 15, hot d (snoc lo e x.castSucc) (snoc up e' x.castSucc) * snoc w 0 x.castSucc = hot d (lo x) (up x) * w x := fun x => by
    have hx : (x.castSucc).val < 15 := x.isLt
    simp only [snoc, dif_pos hx]
    rfl
  have h' : snoc w 0 (Fin.last 15) = 0 := by simp [snoc]
  rw [Finset.sum_congr rfl (fun x _ => h x), h', mul_zero, add_zero]

/-- The kernel's element of the pair result is the reference's, on a finite row. -/
theorem pair_eq (f : Fin 128 → EReal) (hf : ∀ k, ∃ r : ℝ, f k = (r : EReal)) (g be bl : EReal) (p q : Fin 3 → EReal)
    (lo up w : Fin 15 → EReal) (e e' : EReal) (k : Fin 128) :
    pairK f g (be + bl) p q (snoc lo e) (snoc up e') (snoc w 0) k = pairR f g be bl p q lo up w k := by
  unfold pairK pairR
  rw [sum_snoc, normSq_eq f hf]
  ac_rfl

/-- A number whose absolute value is below the infinite literal is a real number. -/
theorem real_of_abs_lt (x : EReal) (h : max x (-x) < Ideal.ofBits .f32 0x7F800000#32) : ∃ r : ℝ, x = (r : EReal) := by
  have ht : Ideal.ofBits .f32 0x7F800000#32 = ⊤ := by simp [Ideal.ofBits, Ideal.ieee]
  rw [ht] at h
  induction x using EReal.rec with
  | bot => simp at h
  | top => simp at h
  | coe r => exact ⟨r, rfl⟩

/-- The one-bit words, read as numbers. -/
theorem bit_one : FloatOps.uitofp (F := Ideal) .f32 1#1 = (1 : EReal) := by
  show ((((1#1 : BitVec 1).toNat : ℕ) : ℝ) : EReal) = 1
  simp

theorem bit_zero : FloatOps.uitofp (F := Ideal) .f32 0#1 = (0 : EReal) := by
  show ((((0#1 : BitVec 1).toNat : ℕ) : ℝ) : EReal) = 0
  simp

/-- The reference's indicator: two comparisons joined bit by bit and read as a number. -/
theorem hot_eq (d lo up : EReal) :
    FloatOps.uitofp (F := Ideal) .f32 (IntOp.andi (BitVec.ofBool (decide (lo < d))) (BitVec.ofBool (decide (d < up)))) = hot d lo up := by
  unfold hot
  by_cases h1 : lo < d <;> by_cases h2 : d < up <;> simp [h1, h2, IntOp.andi, bit_one, bit_zero]

end Cert.Spec
-- ==== Proof.Cell.lean ====
module

public import proofs.«01_k».proof.Proof.Block
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Spec

/-! # What the body computes, element by element over the extended reals -/

/-- The single result's block: each row normalized, scaled and shifted. -/
theorem pay1_at (x3 : FVec Ideal S64x256 .f32) (x7 x8 : FVec Ideal S1x256 .f32) (r : Fin 64) (k : Fin 256) :
    k0_pay1 (F := Ideal) x3 x7 x8 (ix2 r k)
      = norm (Ideal.ofBits .f32 0x43800000#32) (fun x => x3 (ix2 r x)) k * x7 (ix2 0 k) + x8 (ix2 0 k) := by
  pointwise [k0_pay1]
  rfl

/-- The normalized rows of the pair block, scaled and shifted. -/
theorem pay6_at (x5 x6 : FVec Ideal S1x1x128 .f32) (q : EReal) (z : FVec Ideal S8x128x128 .f32) (a : Fin 8) (s k : Fin 128) :
    k0_pay6 (F := Ideal) (k0_pay2 x5) (k0_pay3 x6) q z (ix3 a s k)
      = normSq q (fun x => z (ix3 a s x)) k * x5 (ix3 0 0 k) + x6 (ix3 0 0 k) := by
  pointwise [k0_pay6, k0_pay2, k0_pay3]
  rfl

/-- The squared distances. -/
theorem pay7_at (xt : FVec Ideal S3x128 .f32) (x : FVec Ideal S8x3 .f32) (a : Fin 8) (s : Fin 128) (c : Fin 1) :
    k0_pay7 (F := Ideal) (k0_pay4 xt) x (ix3 a s c) = dist2 (fun i => x (ix2 a i)) (fun i => xt (ix2 i s)) := by
  pointwise [k0_pay7, k0_pay4]
  rfl

/-- The squared distances, one per bin. -/
theorem pay8_at (xt : FVec Ideal S3x128 .f32) (x : FVec Ideal S8x3 .f32) (a : Fin 8) (s : Fin 128) (b : Fin 16) :
    k0_pay8 (F := Ideal) (k0_pay4 xt) x (ix3 a s b) = dist2 (fun i => x (ix2 a i)) (fun i => xt (ix2 i s)) := by
  pointwise [k0_pay8]
  exact pay7_at xt x a s 0

/-- The indicators times the weights, added to what they are given. -/
theorem pay5_at (sq up : FVec Ideal S1x1x16 .f32) (w : FVec Ideal S16x128 .bf16) (v : FVec Ideal S8x128x128 .f32)
    (d : FVec Ideal S8x128x1 .f32) (e : FVec Ideal S8x128x16 .f32) (a : Fin 8) (s k : Fin 128) :
    k0_pay5 (F := Ideal) sq up w v d e (ix3 a s k) = v (ix3 a s k)
      + ∑ x : Fin 16, (if sq (ix3 0 0 x) < e (ix3 a s x) then if d (ix3 a s 0) < up (ix3 0 0 x) then (1 : EReal) else 0 else 0) * w (ix2 x k) := by
  pointwise [k0_pay5]

/-- One trip's chunk, read inside the chunk: an element is the kernel's pair form of its row of `z`, its two points and the bins. -/
theorem zchunk_at (x0 : FVec Ideal S64x128x128 .f32) (x1 : FVec Ideal S64x3 .f32) (x2 : FVec Ideal S3x128 .f32)
    (x4 : FVec Ideal S16x128 .bf16) (x5 x6 : FVec Ideal S1x1x128 .f32) (x9 x10 : FVec Ideal S1x1x16 .f32)
    (t : Fin k0_t1_loop.trips) (a : Fin 8) (s k : Fin 128) (r : Fin 64) (hr : r.val = 8 * t.val + a.val) :
    zchunk (F := Ideal) x0 x1 x2 x4 x5 x6 x9 x10 t (ix3 a s k)
      = pairK (fun x => x0 (ix3 r s x)) (x5 (ix3 0 0 k)) (x6 (ix3 0 0 k)) (fun i => x1 (ix2 r i)) (fun i => x2 (ix2 i s))
          (fun x => x9 (ix3 0 0 x)) (fun x => x10 (ix3 0 0 x)) (fun x => x4 (ix2 x k)) k := by
  have h0 : ∀ x : Fin 128, (View.ld (Val := Elt Ideal) (e' := .f32) x0 (Rect.unit (s := S64x128x128) (k0_off2 t) S8x128x128.size (k0_off2_inb t)) : FVec Ideal S8x128x128 .f32) (ix3 a s x) = x0 (ix3 r s x) := fun x => by
    show x0 _ = x0 _
    congr 1
    funext b
    apply Fin.ext
    match b with
    | ⟨0, _⟩ => show k0_off2 t 0 + 1 * a.val = r.val; rw [k0_off2_eq]; show 8 * t.val + 1 * a.val = r.val; omega
    | ⟨1, _⟩ => show k0_off2 t 1 + 1 * s.val = s.val; rw [k0_off2_eq]; show 0 + 1 * s.val = s.val; omega
    | ⟨2, _⟩ => show k0_off2 t 2 + 1 * x.val = x.val; rw [k0_off2_eq]; show 0 + 1 * x.val = x.val; omega
  have h1 : ∀ i : Fin 3, (View.ld (Val := Elt Ideal) (e' := .f32) x1 (Rect.unit (s := S64x3) (k0_off1 t) S8x3.size (k0_off1_inb t)) : FVec Ideal S8x3 .f32) (ix2 a i) = x1 (ix2 r i) := fun i => by
    show x1 _ = x1 _
    congr 1
    funext b
    apply Fin.ext
    match b with
    | ⟨0, _⟩ => show k0_off1 t 0 + 1 * a.val = r.val; rw [k0_off1_eq]; show 8 * t.val + 1 * a.val = r.val; omega
    | ⟨1, _⟩ => show k0_off1 t 1 + 1 * i.val = i.val; rw [k0_off1_eq]; show 0 + 1 * i.val = i.val; omega
  unfold zchunk
  rw [pay5_at, pay6_at]
  simp only [pay7_at, pay8_at, h0, h1]
  rfl

/-- The whole block, read at an index. -/
theorem zblk_at (x0 : FVec Ideal S64x128x128 .f32) (x1 : FVec Ideal S64x3 .f32) (x2 : FVec Ideal S3x128 .f32)
    (x4 : FVec Ideal S16x128 .bf16) (x5 x6 : FVec Ideal S1x1x128 .f32) (x9 x10 : FVec Ideal S1x1x16 .f32)
    (r : Fin 64) (s k : Fin 128) :
    zblk (F := Ideal) x0 x1 x2 x4 x5 x6 x9 x10 (ix3 r s k)
      = pairK (fun x => x0 (ix3 r s x)) (x5 (ix3 0 0 k)) (x6 (ix3 0 0 k)) (fun i => x1 (ix2 r i)) (fun i => x2 (ix2 i s))
          (fun x => x9 (ix3 0 0 x)) (fun x => x10 (ix3 0 0 x)) (fun x => x4 (ix2 x k)) k := by
  have e : inChunk (ix3 r s k) = ix3 (⟨r.val % 8, Nat.mod_lt _ (by decide)⟩ : Fin 8) s k := by
    funext b
    match b with
    | ⟨0, _⟩ => rfl
    | ⟨1, _⟩ => rfl
    | ⟨2, _⟩ => rfl
  unfold zblk
  rw [e]
  exact zchunk_at x0 x1 x2 x4 x5 x6 x9 x10 _ _ s k r (by show r.val = 8 * (r.val / 8) + r.val % 8; omega)

end Cert.KernelIdeal.Hand
-- ==== Proof.Array.lean ====
module

public import proofs.«01_k».proof.Proof.Cell
public import proofs.«01_k».proof.Proof.Launch
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

/-! # What the two result arrays hold after the run, element by element -/

variable (m : (ℓ : Loc nD τ sig) → Buf (Elt Ideal) ℓ) (c : Dev nD)

/-- The windows' block indices: point `t` is row block `t / 6`, column block `t % 6`. -/
theorem idx : ∀ t : Fin cfg0.N, win0_0.index t = ![t.val / 6, t.val % 6, 0] ∧ win0_1.index t = ![t.val / 6, 0]
    ∧ win0_2.index t = ![0, t.val % 6] ∧ win0_3.index t = ![t.val / 6, 0] ∧ win0_4.index t = ![0, 0]
    ∧ win0_5.index t = ![0, 0, 0] ∧ win0_6.index t = ![0, 0, 0] ∧ win0_7.index t = ![0, 0] ∧ win0_8.index t = ![0, 0]
    ∧ win0_9.index t = ![0, 0, 0] ∧ win0_10.index t = ![0, 0, 0] ∧ win0_11.index t = ![t.val / 6, t.val % 6, 0]
    ∧ win0_12.index t = ![t.val / 6, 0] ∧ t.val / 6 < 12 :=
  (by decide +kernel : ∀ t : Fin grid0.N, _)

/-- The pair result, over the arrays at launch. -/
def zres : FVec Ideal S768x768x128 .f32 := fun y =>
  pairK (fun x => V m c main_v1 (ix3 (y 0) (y 1) x)) (V m c main_v18 (ix3 0 0 (y 2))) (V m c main_v17 (ix3 0 0 (y 2)))
    (fun i => V m c main_v2 (ix2 (y 0) i)) (fun i => V m c main_v3 (ix2 i (y 1)))
    (fun x => V m c main_v9 (ix3 0 0 x)) (fun x => V m c main_v11 (ix3 0 0 x)) (fun x => V m c main_v15 (ix2 x (y 2))) (y 2)

/-- The single result, over the arrays at launch. -/
def mres : FVec Ideal S768x256 .f32 := fun y =>
  norm (Ideal.ofBits .f32 0x43800000#32) (fun x => V m c main_v0 (ix2 (y 0) x)) (y 1) * V m c main_v19 (ix2 0 (y 1)) + V m c main_v20 (ix2 0 (y 1))

/-! Each input block, read at an index, is its array at launch, read at the block's place. -/

/-- The block of the pair representation. -/
theorem iblk0_at (t : Fin cfg0.N) (r : Fin 64) (s x : Fin 128) (R S : Fin 768) (hR : R.val = t.val / 6 * 64 + r.val) (hS : S.val = t.val % 6 * 128 + s.val) :
    iblk m c 0 t (ix3 r s x) = V m c main_v1 (ix3 R S x) := by
  blk_ext [iblk, idx t]

/-- The block of row points. -/
theorem iblk1_at (t : Fin cfg0.N) (r : Fin 64) (i : Fin 3) (R : Fin 768) (hR : R.val = t.val / 6 * 64 + r.val) :
    iblk m c 1 t (ix2 r i) = V m c main_v2 (ix2 R i) := by
  blk_ext [iblk, idx t]

/-- The block of column points. -/
theorem iblk2_at (t : Fin cfg0.N) (i : Fin 3) (s : Fin 128) (S : Fin 768) (hS : S.val = t.val % 6 * 128 + s.val) :
    iblk m c 2 t (ix2 i s) = V m c main_v3 (ix2 i S) := by
  blk_ext [iblk, idx t]

/-- The block of the single representation. -/
theorem iblk3_at (t : Fin cfg0.N) (r : Fin 64) (x : Fin 256) (R : Fin 768) (hR : R.val = t.val / 6 * 64 + r.val) :
    iblk m c 3 t (ix2 r x) = V m c main_v0 (ix2 R x) := by
  blk_ext [iblk, idx t]

/-- The weights. -/
theorem iblk4_at (t : Fin cfg0.N) (x : Fin 16) (k : Fin 128) :
    iblk m c 4 t (ix2 x k) = V m c main_v15 (ix2 x k) := by
  blk_ext [iblk, idx t]

/-- The pair scale. -/
theorem iblk5_at (t : Fin cfg0.N) (k : Fin 128) :
    iblk m c 5 t (ix3 0 0 k) = V m c main_v18 (ix3 0 0 k) := by
  blk_ext [iblk, idx t]

/-- The pair shift. -/
theorem iblk6_at (t : Fin cfg0.N) (k : Fin 128) :
    iblk m c 6 t (ix3 0 0 k) = V m c main_v17 (ix3 0 0 k) := by
  blk_ext [iblk, idx t]

/-- The single scale. -/
theorem iblk7_at (t : Fin cfg0.N) (k : Fin 256) :
    iblk m c 7 t (ix2 0 k) = V m c main_v19 (ix2 0 k) := by
  blk_ext [iblk, idx t]

/-- The single shift. -/
theorem iblk8_at (t : Fin cfg0.N) (k : Fin 256) :
    iblk m c 8 t (ix2 0 k) = V m c main_v20 (ix2 0 k) := by
  blk_ext [iblk, idx t]

/-- The lower edges. -/
theorem iblk9_at (t : Fin cfg0.N) (x : Fin 16) :
    iblk m c 9 t (ix3 0 0 x) = V m c main_v9 (ix3 0 0 x) := by
  blk_ext [iblk, idx t]

/-- The upper edges. -/
theorem iblk10_at (t : Fin cfg0.N) (x : Fin 16) :
    iblk m c 10 t (ix3 0 0 x) = V m c main_v11 (ix3 0 0 x) := by
  blk_ext [iblk, idx t]

/-- The pair form of equal data. -/
theorem pairK_congr {f f' : Fin 128 → EReal} {g g' b b' : EReal} {p p' q q' : Fin 3 → EReal} {lo lo' up up' w w' : Fin 16 → EReal}
    (hf : f = f') (hg : g = g') (hb : b = b') (hp : p = p') (hq : q = q') (hlo : lo = lo') (hup : up = up') (hw : w = w') (k : Fin 128) :
    pairK f g b p q lo up w k = pairK f' g' b' p' q' lo' up' w' k := by
  subst hf hg hb hp hq hlo hup hw; rfl

/-- Point `t`'s pair block is the pair result at the block's place. -/
theorem zat_at (t : Fin cfg0.N) (r : Fin 64) (s k : Fin 128) (R S : Fin 768) (hR : R.val = t.val / 6 * 64 + r.val) (hS : S.val = t.val % 6 * 128 + s.val) :
    zat m c t (ix3 r s k) = zres m c (ix3 R S k) := by
  have e0 : (fun x => iblk m c 0 t (ix3 r s x)) = fun x => V m c main_v1 (ix3 R S x) := funext fun x => iblk0_at m c t r s x R S hR hS
  have e1 : (fun i => iblk m c 1 t (ix2 r i)) = fun i => V m c main_v2 (ix2 R i) := funext fun i => iblk1_at m c t r i R hR
  have e2 : (fun i => iblk m c 2 t (ix2 i s)) = fun i => V m c main_v3 (ix2 i S) := funext fun i => iblk2_at m c t i s S hS
  have e4 : (fun x => iblk m c 4 t (ix2 x k)) = fun x => V m c main_v15 (ix2 x k) := funext fun x => iblk4_at m c t x k
  have e5 : iblk m c 5 t (ix3 0 0 k) = V m c main_v18 (ix3 0 0 k) := iblk5_at m c t k
  have e6 : iblk m c 6 t (ix3 0 0 k) = V m c main_v17 (ix3 0 0 k) := iblk6_at m c t k
  have e9 : (fun x => iblk m c 9 t (ix3 0 0 x)) = fun x => V m c main_v9 (ix3 0 0 x) := funext fun x => iblk9_at m c t x
  have e10 : (fun x => iblk m c 10 t (ix3 0 0 x)) = fun x => V m c main_v11 (ix3 0 0 x) := funext fun x => iblk10_at m c t x
  exact (zblk_at (iblk m c 0 t) (iblk m c 1 t) (iblk m c 2 t) (iblk m c 4 t) (iblk m c 5 t) (iblk m c 6 t) (iblk m c 9 t)
    (iblk m c 10 t) r s k).trans (pairK_congr e0 e5 e6 e1 e2 e9 e10 e4 k)

/-- Point `t`'s single block is the single result at the block's place. -/
theorem mat_at (t : Fin cfg0.N) (r : Fin 64) (k : Fin 256) (R : Fin 768) (hR : R.val = t.val / 6 * 64 + r.val) :
    mat m c t (ix2 r k) = mres m c (ix2 R k) := by
  have ht : (rowStart t).val / 6 = t.val / 6 := by
    show (t.val - t.val % 6) / 6 = t.val / 6
    omega
  have hR' : R.val = (rowStart t).val / 6 * 64 + r.val := by rw [ht]; exact hR
  unfold mat
  generalize rowStart t = u at hR' ⊢
  rw [pay1_at]
  show _ = norm _ (fun x => V m c main_v0 (ix2 R x)) k * V m c main_v19 (ix2 0 k) + V m c main_v20 (ix2 0 k)
  have e0 : (fun x => iblk m c 3 u (ix2 r x)) = fun x => V m c main_v0 (ix2 R x) := funext fun x => iblk3_at m c u r x R hR'
  have e1 : iblk m c 7 u (ix2 0 k) = V m c main_v19 (ix2 0 k) := iblk7_at m c u k
  have e2 : iblk m c 8 u (ix2 0 k) = V m c main_v20 (ix2 0 k) := iblk8_at m c u k
  exact congrArg₂ (fun a b : EReal => a + b) (congrArg₂ (fun a b : EReal => a * b) (congrArg (fun f => norm _ f k) e0) e1) e2

/-- After the run the first result array holds the pair result. -/
theorem final_z : (dats m 0 c).arrAt 11 (cfgs 0).N = zres m c := by
  refine (dats m 0 c).arrAt_eq_of_covers 11 _ (by decide +kernel) fun t _ y => ?_
  blk_simp
  rw [after_11]
  have h0 : (((win0_11.blk t).view.emb y) 0).val = t.val / 6 * 64 + (y 0).val := by blk_simp [idx t]
  have h1 : (((win0_11.blk t).view.emb y) 1).val = t.val % 6 * 128 + (y 1).val := by blk_simp [idx t]
  have h2 : ((win0_11.blk t).view.emb y) 2 = y 2 := by apply Fin.ext; blk_simp [idx t]
  generalize (win0_11.blk t).view.emb y = z at h0 h1 h2 ⊢
  have hy : y = ix3 (y 0) (y 1) (y 2) := eq_ix3 y
  have hz : z = ix3 (z 0) (z 1) (y 2) := (eq_ix3 z).trans (congrArg (fun q => ix3 (z 0) (z 1) q) h2)
  rw [hy, hz]
  exact zat_at m c t (y 0) (y 1) (y 2) (z 0) (z 1) h0 h1

/-- After the run the second result array holds the single result. -/
theorem final_m : (dats m 0 c).arrAt 12 (cfgs 0).N = mres m c := by
  refine (dats m 0 c).arrAt_eq_of_covers 12 _ (by decide +kernel) fun t _ y => ?_
  blk_simp
  rw [after_12]
  have h0 : (((win0_12.blk t).view.emb y) 0).val = t.val / 6 * 64 + (y 0).val := by blk_simp [idx t]
  have h1 : ((win0_12.blk t).view.emb y) 1 = y 1 := by apply Fin.ext; blk_simp [idx t]
  generalize (win0_12.blk t).view.emb y = z at h0 h1 ⊢
  have hy : y = ix2 (y 0) (y 1) := eq_ix2 y
  have hz : z = ix2 (z 0) (y 1) := (eq_ix2 z).trans (congrArg (fun q => ix2 (z 0) q) h1)
  rw [hy, hz]
  exact mat_at m c t (y 0) (y 1) (z 0) h0

end Cert.KernelIdeal.Hand
-- ==== Proof.Host.lean ====
module

public import proofs.«01_k».proof.Proof.Gen.KernelIdeal.Frame
public import Idealize.ShloMosaic.Lib.StableHlo.Run
public import Idealize.ShloMosaic.Lib.Pointwise
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! # What the arrays hold when the kernel is launched

The host operations before the launch reshape the arguments, lay out the bin edges and pad them and the weights to sixteen. -/

/-- The concatenations, named. -/
def cat15 (a : FVec F S14 .f32) (b : FVec F S1 .f32) : FVec F S15 .f32 :=
  concatenate S15 0 [⟨S14, a⟩, ⟨S1, b⟩] concatenates_S14_S1_S15_d0
def cat16 (a : FVec F S15 .f32) (b : FVec F S1 .f32) : FVec F S16 .f32 :=
  concatenate S16 0 [⟨S15, a⟩, ⟨S1, b⟩] concatenates_S15_S1_S16_d0
def catW (a : FVec F S15x128 .f32) (b : FVec F S1x128 .f32) : FVec F S16x128 .f32 :=
  concatenate S16x128 0 [⟨S15x128, a⟩, ⟨S1x128, b⟩] concatenates_S15x128_S1x128_S16x128_d0

theorem cat15_fold : (fun (a : FVec F S14 .f32) (b : FVec F S1 .f32) =>
    (concatenate S15 0 [⟨S14, a⟩, ⟨S1, b⟩] concatenates_S14_S1_S15_d0 : FVec F S15 .f32)) = cat15 := rfl
theorem cat16_fold : (fun (a : FVec F S15 .f32) (b : FVec F S1 .f32) =>
    (concatenate S16 0 [⟨S15, a⟩, ⟨S1, b⟩] concatenates_S15_S1_S16_d0 : FVec F S16 .f32)) = cat16 := rfl
theorem catW_fold : (fun (a : FVec F S15x128 .f32) (b : FVec F S1x128 .f32) =>
    (concatenate S16x128 0 [⟨S15x128, a⟩, ⟨S1x128, b⟩] concatenates_S15x128_S1x128_S16x128_d0 : FVec F S16x128 .f32)) = catW := rfl

/-- The fourteen even steps from nought. -/
def steps : FVec F S14 .f32 :=
  Host.divf (sitofp .f32 (iotaInDim S14 32 0)) (broadcastInDim S14 ![] bcast_S_S14 (constant S_ .f32 0x41600000#32))

/-- The fifteen evenly spaced distances: fourteen interpolated, then the end point. -/
def bins : FVec F S15 .f32 :=
  cat15 (addf
      (mulf (broadcastInDim S14 ![0] bcast_S1_S14_0 (shapeCast S1 (id (constant (F := F) S_ .f32 0x40500000#32)) shapeCasts_S_S1))
        (subf (broadcastInDim S14 ![] bcast_S_S14 (constant S_ .f32 0x3F800000#32)) steps))
      (mulf (broadcastInDim S14 ![0] bcast_S1_S14_0 (shapeCast S1 (id (constant (F := F) S_ .f32 0x41A60000#32)) shapeCasts_S_S1)) steps))
    (broadcastInDim S1 ![] bcast_S_S1 (id (constant S_ .f32 0x41A60000#32)))

/-- The lower edges of the bins: the distances squared. -/
def edges : FVec F S15 .f32 := mulf bins bins

/-- The upper edges: the lower ones moved by one, closed by a large number. -/
def uppers : FVec F S15 .f32 :=
  cat15 (extractStridedSlice S14 ![1] edges slices_S15_S14_1) (constant S1 .f32 0x4CBEBC20#32)

variable (m : (ℓ : Loc nD τ sig) → Buf (Elt F) ℓ)

set_option maxHeartbeats 1600000 in
/-- At launch: the single representation. -/
theorem V_v0 (c : Dev nD) : V m c main_v0 = shapeCast S768x256 (m ((c : Thread nD τ).loc main_arg0)) shapeCasts_S1x768x256_S768x256 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the pair representation. -/
theorem V_v1 (c : Dev nD) : V m c main_v1 = shapeCast S768x768x128 (m ((c : Thread nD τ).loc main_arg1)) shapeCasts_S1x768x768x128_S768x768x128 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the points. -/
theorem V_v2 (c : Dev nD) : V m c main_v2 = shapeCast S768x3 (m ((c : Thread nD τ).loc main_arg2)) shapeCasts_S1x768x3_S768x3 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the points, transposed. -/
theorem V_v3 (c : Dev nD) : V m c main_v3 = transpose S3x768 [1, 0] (shapeCast S768x3 (m ((c : Thread nD τ).loc main_arg2)) shapeCasts_S1x768x3_S768x3) transposes_S768x3_S3x768_1_0 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the lower edges, padded. -/
theorem V_v9 (c : Dev nD) : V m c main_v9 = shapeCast S1x1x16 (cat16 edges (constant (F := F) S1 .f32 0x4CBEBC20#32)) shapeCasts_S16_S1x1x16 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the upper edges, padded. -/
theorem V_v11 (c : Dev nD) : V m c main_v11 = shapeCast S1x1x16 (cat16 uppers (constant (F := F) S1 .f32 0x4CBEBC20#32)) shapeCasts_S16_S1x1x16 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the weights, transposed, padded with a zero row. -/
theorem V_v15 (c : Dev nD) : V m c main_v15 = truncf .bf16 (catW (transpose S15x128 [1, 0] (m ((c : Thread nD τ).loc main_arg3)) transposes_S128x15_S15x128_1_0) (broadcastInDim S1x128 ![] bcast_S_S1x128 (constant S_ .f32 0x00000000#32))) bitsLt_bf16_f32 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the two shifts added. -/
theorem V_v17 (c : Dev nD) : V m c main_v17 = shapeCast S1x1x128 (addf (show FVec F S128 .f32 from (m ((c : Thread nD τ).loc main_arg8))) (show FVec F S128 .f32 from (m ((c : Thread nD τ).loc main_arg4)))) shapeCasts_S128_S1x1x128 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the pair scale. -/
theorem V_v18 (c : Dev nD) : V m c main_v18 = shapeCast S1x1x128 (m ((c : Thread nD τ).loc main_arg7)) shapeCasts_S128_S1x1x128 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the single scale. -/
theorem V_v19 (c : Dev nD) : V m c main_v19 = shapeCast S1x256 (m ((c : Thread nD τ).loc main_arg5)) shapeCasts_S256_S1x256 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

set_option maxHeartbeats 1600000 in
/-- At launch: the single shift. -/
theorem V_v20 (c : Dev nD) : V m c main_v20 = shapeCast S1x256 (m ((c : Thread nD τ).loc main_arg6)) shapeCasts_S256_S1x256 := by
  unfold V
  simp only [hostOps0, hostOps0_1, hostOps0_2, List.flatten_cons, List.flatten_nil, List.append_nil, List.cons_append, List.nil_append]
  simp only [cat15_fold, cat16_fold, catW_fold]
  simp only [TRef.binary, TRef.nullary, TRef.reshape, TRef.ternary, TRef.unary, TRef.toBuf, TRef.ofBuf, cast_eq]
  after_results_simp <;> rfl

end Cert.KernelIdeal.Hand
-- ==== Proof.HostAt.lean ====
module

public import proofs.«01_k».proof.Proof.Host
public import Idealize.ShloMosaic.Lib.Pointwise
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Spec

/-! # The arrays at launch, read at an index -/

/-- Sixteen edges are fifteen and one more. -/
theorem cat16_at (a : FVec Ideal S15 .f32) (b : FVec Ideal S1 .f32) (x : Fin 16) :
    shapeCast S1x1x16 (cat16 a b) shapeCasts_S16_S1x1x16 (ix3 0 0 x) = snoc (fun i => a (ix1 i)) (b (ix1 0)) x := by
  pointwise [cat16, snoc]
  by_cases h : x.val < 15
  · rw [dif_pos h, dif_pos h]
  · rw [dif_neg h, dif_neg h]
    exact congrArg (fun i : Fin 1 => b (ix1 i)) (Subsingleton.elim _ _)

/-- Sixteen rows of weights are the fifteen transposed and a row of zeros. -/
theorem catW_at (a : FVec Ideal S128x15 .f32) (x : Fin 16) (k : Fin 128) :
    truncf (F := Ideal) .bf16 (catW (transpose S15x128 [1, 0] a transposes_S128x15_S15x128_1_0)
        (broadcastInDim S1x128 ![] bcast_S_S1x128 (constant S_ .f32 0x00000000#32))) bitsLt_bf16_f32 (ix2 x k)
      = snoc (fun i => a (ix2 k i)) 0 x := by
  pointwise [catW, snoc]

/-- A reshape that drops or adds axes of length one moves no element. -/
theorem single_at (a : FVec Ideal S1x768x256 .f32) (r : Fin 768) (k : Fin 256) : shapeCast S768x256 a shapeCasts_S1x768x256_S768x256 (ix2 r k) = a (ix3 0 r k) := by
  pointwise

/-- The same for the pair representation, -/
theorem pair_at (a : FVec Ideal S1x768x768x128 .f32) (r s : Fin 768) (k : Fin 128) : shapeCast S768x768x128 a shapeCasts_S1x768x768x128_S768x768x128 (ix3 r s k) = a (ix4 0 r s k) := by
  pointwise

/-- the points, -/
theorem points_at (a : FVec Ideal S1x768x3 .f32) (r : Fin 768) (i : Fin 3) : shapeCast S768x3 a shapeCasts_S1x768x3_S768x3 (ix2 r i) = a (ix3 0 r i) := by
  pointwise

/-- the transposed points, -/
theorem pointsT_at (a : FVec Ideal S1x768x3 .f32) (s : Fin 768) (i : Fin 3) :
    transpose S3x768 [1, 0] (shapeCast S768x3 a shapeCasts_S1x768x3_S768x3) transposes_S768x3_S3x768_1_0 (ix2 i s) = a (ix3 0 s i) := by
  pointwise

/-- a vector of the pair's channels -/
theorem vec128_at (a : FVec Ideal S128 .f32) (k : Fin 128) : shapeCast S1x1x128 a shapeCasts_S128_S1x1x128 (ix3 0 0 k) = a (ix1 k) := by
  pointwise

/-- and a vector of the single representation's. -/
theorem vec256_at (a : FVec Ideal S256 .f32) (k : Fin 256) : shapeCast S1x256 a shapeCasts_S256_S1x256 (ix2 0 k) = a (ix1 k) := by
  pointwise

variable (m : (ℓ : Loc nD τ sig) → Buf (Elt Ideal) ℓ) (c : Dev nD)

/-! The reshaped arguments. -/

theorem V_v0_at (r : Fin 768) (k : Fin 256) : V m c main_v0 (ix2 r k) = (show FVec Ideal S1x768x256 .f32 from m ((c : Thread nD τ).loc main_arg0)) (ix3 0 r k) := by
  rw [V_v0]
  exact single_at _ r k

theorem V_v1_at (r s : Fin 768) (k : Fin 128) : V m c main_v1 (ix3 r s k) = (show FVec Ideal S1x768x768x128 .f32 from m ((c : Thread nD τ).loc main_arg1)) (ix4 0 r s k) := by
  rw [V_v1]
  exact pair_at _ r s k

theorem V_v2_at (r : Fin 768) (i : Fin 3) : V m c main_v2 (ix2 r i) = (show FVec Ideal S1x768x3 .f32 from m ((c : Thread nD τ).loc main_arg2)) (ix3 0 r i) := by
  rw [V_v2]
  exact points_at _ r i

theorem V_v3_at (s : Fin 768) (i : Fin 3) : V m c main_v3 (ix2 i s) = (show FVec Ideal S1x768x3 .f32 from m ((c : Thread nD τ).loc main_arg2)) (ix3 0 s i) := by
  rw [V_v3]
  exact pointsT_at _ s i

theorem V_v18_at (k : Fin 128) : V m c main_v18 (ix3 0 0 k) = (show FVec Ideal S128 .f32 from m ((c : Thread nD τ).loc main_arg7)) (ix1 k) := by
  rw [V_v18]
  exact vec128_at _ k

theorem V_v19_at (k : Fin 256) : V m c main_v19 (ix2 0 k) = (show FVec Ideal S256 .f32 from m ((c : Thread nD τ).loc main_arg5)) (ix1 k) := by
  rw [V_v19]
  exact vec256_at _ k

theorem V_v20_at (k : Fin 256) : V m c main_v20 (ix2 0 k) = (show FVec Ideal S256 .f32 from m ((c : Thread nD τ).loc main_arg6)) (ix1 k) := by
  rw [V_v20]
  exact vec256_at _ k

/-- The pair shift is the sum of the two shifts. -/
theorem V_v17_at (k : Fin 128) : V m c main_v17 (ix3 0 0 k) = (show FVec Ideal S128 .f32 from m ((c : Thread nD τ).loc main_arg8)) (ix1 k)
    + (show FVec Ideal S128 .f32 from m ((c : Thread nD τ).loc main_arg4)) (ix1 k) := by
  rw [V_v17]
  exact vec128_at _ k

/-- The padded edges and weights. -/
theorem V_v9_at (x : Fin 16) : V m c main_v9 (ix3 0 0 x) = snoc (fun i => edges (F := Ideal) (ix1 i)) (Ideal.ofBits .f32 0x4CBEBC20#32) x := by
  rw [V_v9]
  exact cat16_at _ _ x

theorem V_v11_at (x : Fin 16) : V m c main_v11 (ix3 0 0 x) = snoc (fun i => uppers (F := Ideal) (ix1 i)) (Ideal.ofBits .f32 0x4CBEBC20#32) x := by
  rw [V_v11]
  exact cat16_at _ _ x

theorem V_v15_at (x : Fin 16) (k : Fin 128) : V m c main_v15 (ix2 x k)
    = snoc (fun i => (show FVec Ideal S128x15 .f32 from m ((c : Thread nD τ).loc main_arg3)) (ix2 k i)) 0 x := by
  rw [V_v15]
  exact catW_at _ x k

end Cert.KernelIdeal.Hand
-- ==== Proof.Reference.lean ====
module

public import proofs.«01_k».proof.Proof.Host
public import proofs.«01_k».proof.Proof.Gen.ReferenceIdeal.Run
public import Idealize.ShloMosaic.Lib.Pointwise
public import proofs.«01_k».proof.Proof.Spec

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.Spec

/-! # What the reference computes, element by element -/

/-- The differences of the points, pair by pair. -/
def zdiff (a2 : FVec Ideal S1x768x3 .f32) : FVec Ideal S1x768x768x3 .f32 :=
  subf (broadcastInDim S1x768x768x3 ![0, 1, 2, 3] bcast_S1x768x1x3_S1x768x768x3_0_1_2_3 (broadcastInDim S1x768x1x3 ![0, 1, 3]
    bcast_S1x768x3_S1x768x1x3_0_1_3 a2)) (broadcastInDim S1x768x768x3 ![0, 1, 2, 3] bcast_S1x1x768x3_S1x768x768x3_0_1_2_3
    (broadcastInDim S1x1x768x3 ![0, 2, 3] bcast_S1x768x3_S1x1x768x3_0_2_3 a2))

/-- The squared distances. -/
def zdist (a2 : FVec Ideal S1x768x3 .f32) : FVec Ideal S1x768x768 .f32 :=
  Host.reduceAdd (mulf (zdiff a2) (zdiff a2)) (constant S_ .f32 0x00000000#32) reducesTo_S1x768x768x3_S1x768x768_d3 h_S_

/-- The indicators of the bins. -/
def zhot (a2 : FVec Ideal S1x768x3 .f32) (lo up : FVec Ideal S15 .f32) : FVec Ideal S1x768x768x15 .f32 :=
  uitofp .f32 (andi (cmpf .ogt (broadcastInDim S1x768x768x15 ![0, 1, 2, 3] bcast_S1x768x768x1_S1x768x768x15_0_1_2_3
    (broadcastInDim S1x768x768x1 ![0, 1, 2] bcast_S1x768x768_S1x768x768x1_0_1_2 (zdist a2))) (broadcastInDim S1x768x768x15
    ![0, 1, 2, 3] bcast_S1x1x1x15_S1x768x768x15_0_1_2_3 (broadcastInDim S1x1x1x15 ![3] bcast_S15_S1x1x1x15_3 lo))) (cmpf .olt
    (broadcastInDim S1x768x768x15 ![0, 1, 2, 3] bcast_S1x768x768x1_S1x768x768x15_0_1_2_3 (broadcastInDim S1x768x768x1 ![0, 1,
    2] bcast_S1x768x768_S1x768x768x1_0_1_2 (zdist a2))) (broadcastInDim S1x768x768x15 ![0, 1, 2, 3]
    bcast_S1x1x1x15_S1x768x768x15_0_1_2_3 (broadcastInDim S1x1x1x15 ![3] bcast_S15_S1x1x1x15_3 up))))

/-- The deviations of a pair's row from its mean. -/
def zdev (a1 : FVec Ideal S1x768x768x128 .f32) : FVec Ideal S1x768x768x128 .f32 :=
  subf a1 (broadcastInDim S1x768x768x128 ![0, 1, 2, 3] bcast_S1x768x768x1_S1x768x768x128_0_1_2_3 (Host.divf (broadcastInDim
    S1x768x768x1 ![0, 1, 2] bcast_S1x768x768_S1x768x768x1_0_1_2 (Host.reduceAdd a1 (constant S_ .f32 0x00000000#32)
    reducesTo_S1x768x768x128_S1x768x768_d3 h_S_)) (broadcastInDim S1x768x768x1 ![] bcast_S_S1x768x768x1 (constant S_ .f32
    0x43000000#32))))

/-- The variances of the pairs' rows. -/
def zvar (a1 : FVec Ideal S1x768x768x128 .f32) : FVec Ideal S1x768x768x1 .f32 :=
  select (broadcastInDim S1x768x768x1 ![] bcast_S_S1x768x768x1 (cmpf .ogt (subf (constant S_ .f32 0x43000000#32) (sitofp .f32
    (constantI S_ 32 0#32)) : FVec Ideal S_ .f32) (constant S_ .f32 0x00000000#32))) (Host.divf (broadcastInDim S1x768x768x1
    ![0, 1, 2] bcast_S1x768x768_S1x768x768x1_0_1_2 (Host.reduceAdd (mulf (zdev a1) (zdev a1)) (constant S_ .f32
    0x00000000#32) reducesTo_S1x768x768x128_S1x768x768_d3 h_S_)) (broadcastInDim S1x768x768x1 ![] bcast_S_S1x768x768x1 (subf
    (constant S_ .f32 0x43000000#32) (sitofp .f32 (constantI S_ 32 0#32))))) (broadcastInDim S1x768x768x1 ![]
    bcast_S_S1x768x768x1 (id (constant S_ .f32 0x7FC00000#32)))

/-- The deviations of a row of the single representation from its mean. -/
def mdev (a0 : FVec Ideal S1x768x256 .f32) : FVec Ideal S1x768x256 .f32 :=
  subf a0 (broadcastInDim S1x768x256 ![0, 1, 2] bcast_S1x768x1_S1x768x256_0_1_2 (Host.divf (broadcastInDim S1x768x1 ![0, 1]
    bcast_S1x768_S1x768x1_0_1 (Host.reduceAdd a0 (constant S_ .f32 0x00000000#32) reducesTo_S1x768x256_S1x768_d2 h_S_))
    (broadcastInDim S1x768x1 ![] bcast_S_S1x768x1 (constant S_ .f32 0x43800000#32))))

/-- The variances of those rows. -/
def mvar (a0 : FVec Ideal S1x768x256 .f32) : FVec Ideal S1x768x1 .f32 :=
  select (broadcastInDim S1x768x1 ![] bcast_S_S1x768x1 (cmpf .ogt (subf (constant S_ .f32 0x43800000#32) (sitofp .f32
    (constantI S_ 32 0#32)) : FVec Ideal S_ .f32) (constant S_ .f32 0x00000000#32))) (Host.divf (broadcastInDim S1x768x1 ![0,
    1] bcast_S1x768_S1x768x1_0_1 (Host.reduceAdd (mulf (mdev a0) (mdev a0)) (constant S_ .f32 0x00000000#32)
    reducesTo_S1x768x256_S1x768_d2 h_S_)) (broadcastInDim S1x768x1 ![] bcast_S_S1x768x1 (subf (constant S_ .f32
    0x43800000#32) (sitofp .f32 (constantI S_ 32 0#32))))) (broadcastInDim S1x768x1 ![] bcast_S_S1x768x1 (id (constant S_
    .f32 0x7FC00000#32)))

/-- The reference's pair result as a function of its arguments and of the two lists of bin edges. -/
def zref (lo up : FVec Ideal S15 .f32) (a1 : FVec Ideal S1x768x768x128 .f32) (a2 : FVec Ideal S1x768x3 .f32)
    (a3 : FVec Ideal S128x15 .f32) (a4 a7 a8 : FVec Ideal S128 .f32) : FVec Ideal S768x768x128 .f32 :=
  shapeCast S768x768x128 (addf (addf (Host.dotGeneral dot_S1x768x768x15_S128x15_S1x768x768x128_3_1_012_0_n_n none (zhot a2 lo
    up) a3) (broadcastInDim S1x768x768x128 ![0, 1, 2, 3] bcast_S1x1x1x128_S1x768x768x128_0_1_2_3 (broadcastInDim S1x1x1x128
    ![3] bcast_S128_S1x1x1x128_3 a4))) (addf (mulf (mulf (zdev a1) (broadcastInDim S1x768x768x128 ![0, 1, 2, 3]
    bcast_S1x768x768x1_S1x768x768x128_0_1_2_3 (Host.rsqrt (addf (zvar a1) (broadcastInDim S1x768x768x1 ![]
    bcast_S_S1x768x768x1 (constant S_ .f32 0x3727C5AC#32)))))) (broadcastInDim S1x768x768x128 ![0, 1, 2, 3]
    bcast_S1x1x1x128_S1x768x768x128_0_1_2_3 (broadcastInDim S1x1x1x128 ![3] bcast_S128_S1x1x1x128_3 a7))) (broadcastInDim
    S1x768x768x128 ![0, 1, 2, 3] bcast_S1x1x1x128_S1x768x768x128_0_1_2_3 (broadcastInDim S1x1x1x128 ![3]
    bcast_S128_S1x1x1x128_3 a8)))) shapeCasts_S1x768x768x128_S768x768x128

/-- The reference's single result as a function of its arguments. -/
def mref (a0 : FVec Ideal S1x768x256 .f32) (a5 a6 : FVec Ideal S256 .f32) : FVec Ideal S768x256 .f32 :=
  shapeCast S768x256 (addf (mulf (mulf (mdev a0) (broadcastInDim S1x768x256 ![0, 1, 2] bcast_S1x768x1_S1x768x256_0_1_2
    (Host.rsqrt (addf (mvar a0) (broadcastInDim S1x768x1 ![] bcast_S_S1x768x1 (constant S_ .f32 0x3727C5AC#32))))))
    (broadcastInDim S1x768x256 ![0, 1, 2] bcast_S1x1x256_S1x768x256_0_1_2 (broadcastInDim S1x1x256 ![2] bcast_S256_S1x1x256_2
    a5))) (broadcastInDim S1x768x256 ![0, 1, 2] bcast_S1x1x256_S1x768x256_0_1_2 (broadcastInDim S1x1x256 ![2]
    bcast_S256_S1x1x256_2 a6))) shapeCasts_S1x768x256_S768x256

/-- A difference of points at an index. -/
theorem zdiff_at (a2 : FVec Ideal S1x768x3 .f32) (r s : Fin 768) (i : Fin 3) :
    zdiff a2 (ix4 0 r s i) = a2 (ix3 0 r i) - a2 (ix3 0 s i) := by
  pointwise [zdiff]

/-- A squared distance at an index. -/
theorem zdist_at (a2 : FVec Ideal S1x768x3 .f32) (r s : Fin 768) :
    zdist a2 (ix3 0 r s) = dist2 (fun i => a2 (ix3 0 r i)) (fun i => a2 (ix3 0 s i)) := by
  pointwise [zdist]
  simp only [zdiff_at, Fin.sum_univ_three]
  rfl

/-- An indicator at an index. -/
theorem zhot_at (a2 : FVec Ideal S1x768x3 .f32) (lo up : FVec Ideal S15 .f32) (r s : Fin 768) (x : Fin 15) :
    zhot a2 lo up (ix4 0 r s x) = hot (dist2 (fun i => a2 (ix3 0 r i)) (fun i => a2 (ix3 0 s i))) (lo (ix1 x)) (up (ix1 x)) := by
  rw [← hot_eq, ← zdist_at]
  pointwise [zhot]

/-- A deviation at an index. -/
theorem zdev_at (a1 : FVec Ideal S1x768x768x128 .f32) (r s : Fin 768) (k : Fin 128) :
    zdev a1 (ix4 0 r s k) = a1 (ix4 0 r s k) - Ideal.div (∑ x, a1 (ix4 0 r s x)) (Ideal.ofBits .f32 0x43000000#32) := by
  pointwise [zdev]

/-- A variance at an index: the guard against an empty row holds. -/
theorem zvar_at (a1 : FVec Ideal S1x768x768x128 .f32) (r s : Fin 768) :
    zvar a1 (ix4 0 r s 0) = Ideal.div (∑ x, zdev a1 (ix4 0 r s x) * zdev a1 (ix4 0 r s x)) (Ideal.ofBits .f32 0x43000000#32) := by
  pointwise [zvar]
  rw [sint_zero, sub_zero, if_pos n128_pos]

/-- The element of the pair result at row `r`, column `s`, channel `k`. -/
theorem zref_at (lo up : FVec Ideal S15 .f32) (a1 : FVec Ideal S1x768x768x128 .f32) (a2 : FVec Ideal S1x768x3 .f32)
    (a3 : FVec Ideal S128x15 .f32) (a4 a7 a8 : FVec Ideal S128 .f32) (r s : Fin 768) (k : Fin 128) :
    zref lo up a1 a2 a3 a4 a7 a8 (ix3 r s k)
      = pairR (fun x => a1 (ix4 0 r s x)) (a7 (ix1 k)) (a8 (ix1 k)) (a4 (ix1 k)) (fun i => a2 (ix3 0 r i)) (fun i => a2 (ix3 0 s i))
          (fun x => lo (ix1 x)) (fun x => up (ix1 x)) (fun x => a3 (ix2 k x)) k := by
  pointwise [zref]
  simp only [zhot_at, zdev_at, zvar_at]
  rfl

/-- A deviation at an index. -/
theorem mdev_at (a0 : FVec Ideal S1x768x256 .f32) (r : Fin 768) (k : Fin 256) :
    mdev a0 (ix3 0 r k) = a0 (ix3 0 r k) - Ideal.div (∑ x, a0 (ix3 0 r x)) (Ideal.ofBits .f32 0x43800000#32) := by
  pointwise [mdev]

/-- A variance at an index. -/
theorem mvar_at (a0 : FVec Ideal S1x768x256 .f32) (r : Fin 768) :
    mvar a0 (ix3 0 r 0) = Ideal.div (∑ x, mdev a0 (ix3 0 r x) * mdev a0 (ix3 0 r x)) (Ideal.ofBits .f32 0x43800000#32) := by
  pointwise [mvar]
  rw [sint_zero, sub_zero, if_pos n256_pos]

/-- The element of the single result at row `r`, channel `k`. -/
theorem mref_at (a0 : FVec Ideal S1x768x256 .f32) (a5 a6 : FVec Ideal S256 .f32) (r : Fin 768) (k : Fin 256) :
    mref a0 a5 a6 (ix2 r k)
      = norm (Ideal.ofBits .f32 0x43800000#32) (fun x => a0 (ix3 0 r x)) k * a5 (ix1 k) + a6 (ix1 k) := by
  pointwise [mref]
  simp only [mdev_at, mvar_at]
  rfl

set_option maxHeartbeats 1600000 in
/-- The reference's pair result is `zref` at the bin edges both programs lay out. -/
theorem res_eq (m : (ℓ : Loc nD τ sig) → Buf (Elt Ideal) ℓ) (c : Dev nD) :
    Value.res_main_v64 m c = zref Cert.KernelIdeal.Hand.edges Cert.KernelIdeal.Hand.uppers (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg7)) (m ((c.tc : Thread nD τ).loc main_arg8)) := by
  unfold Value.res_main_v64
  rfl

/-- Every run of the reference ends with `mref`, `zref` and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = mref (m ((c.tc : Thread nD τ).loc main_arg0))
          (m ((c.tc : Thread nD τ).loc main_arg5)) (m ((c.tc : Thread nD τ).loc main_arg6))
      ∧ r.2.mem ((c.tc : Thread nD τ).loc main_v64) = zref Cert.KernelIdeal.Hand.edges Cert.KernelIdeal.Hand.uppers
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨(h c).1.trans (by unfold mref mvar mdev; rfl), (h c).2.1.trans (res_eq m c), (h c).2.2⟩) (Value.run m ρ)

end Cert.ReferenceIdeal.Hand
-- ==== Proof.Equation.lean ====
module

public import proofs.«01_k».proof.Proof.Array
public import proofs.«01_k».proof.Proof.HostAt
public import proofs.«01_k».proof.Proof.Reference

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Spec

/-! # The kernel's results are the reference's -/

variable (m : (ℓ : Loc nD τ sig) → Buf (Elt Ideal) ℓ) (c : Dev nD)

/-- The pair results agree when every element of the pair representation is a real number. -/
theorem zres_eq (h : ∀ i, ∃ r : ℝ, (show FVec Ideal S1x768x768x128 .f32 from m ((c : Thread nD τ).loc main_arg1)) i = (r : EReal)) :
    zres m c = Cert.ReferenceIdeal.Hand.zref edges uppers (m ((c : Thread nD τ).loc main_arg1)) (m ((c : Thread nD τ).loc main_arg2))
      (m ((c : Thread nD τ).loc main_arg3)) (m ((c : Thread nD τ).loc main_arg4)) (m ((c : Thread nD τ).loc main_arg7))
      (m ((c : Thread nD τ).loc main_arg8)) := by
  funext y
  obtain ⟨r, s, k, rfl⟩ : ∃ (r s : Fin 768) (k : Fin 128), y = ix3 r s k := ⟨y 0, y 1, y 2, eq_ix3 y⟩
  refine Eq.trans ?_ (Cert.ReferenceIdeal.Hand.zref_at edges uppers _ _ _ _ _ _ r s k).symm
  refine Eq.trans (pairK_congr (funext fun x => V_v1_at m c r s x) (V_v18_at m c k) (V_v17_at m c k) (funext fun i => V_v2_at m c r i)
    (funext fun i => V_v3_at m c s i) (funext fun x => V_v9_at m c x) (funext fun x => V_v11_at m c x) (funext fun x => V_v15_at m c x k) k) ?_
  exact pair_eq _ (fun x => h _) _ _ _ _ _ _ _ _ _ _ k

/-- The single results agree. -/
theorem mres_eq : mres m c = Cert.ReferenceIdeal.Hand.mref (m ((c : Thread nD τ).loc main_arg0)) (m ((c : Thread nD τ).loc main_arg5))
    (m ((c : Thread nD τ).loc main_arg6)) := by
  funext y
  obtain ⟨r, k, rfl⟩ : ∃ (r : Fin 768) (k : Fin 256), y = ix2 r k := ⟨y 0, y 1, eq_ix2 y⟩
  refine Eq.trans ?_ (Cert.ReferenceIdeal.Hand.mref_at _ _ _ r k).symm
  exact congrArg₂ (fun a b : EReal => a + b) (congrArg₂ (fun a b : EReal => a * b)
    (congrArg (fun f => norm _ f k) (funext fun x => V_v0_at m c r x)) (V_v19_at m c k)) (V_v20_at m c k)

/-- Every run of the kernel ends with the single and the pair result and its arguments as they were. -/
theorem run_value (ρ : Dev nD → PrngReg) : θ_run defs (onTc (τ := τ) (main (F := Ideal))) ⟨m, fun _ => 0, ρ⟩ fun r => ∀ c : Dev nD,
      r.2.mem ((c.tc : Thread nD τ).loc main_v21_1) = mres m c
      ∧ r.2.mem ((c.tc : Thread nD τ).loc main_v21_0) = zres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.1 c).1 12).trans (final_m m c), ((h.1 c).1 11).trans (final_z m c), h.2.1 c⟩)
    (θ_run_and (run_main m ρ) (frame m ρ))

end Cert.KernelIdeal.Hand
-- ==== Proof.lean ====
module

public import proofs.«01_k».proof.Defs
public import proofs.«01_k».proof.Proof.Gen.ReferenceIdeal.Run
public import proofs.«01_k».proof.Proof.Gen.ReferenceIdeal
public import proofs.«01_k».proof.Proof.Gen.Kernel
public import proofs.«01_k».proof.Proof.Gen.Kernel.Frame
public import proofs.«01_k».proof.Proof.Gen.KernelIdeal
public import proofs.«01_k».proof.Proof.Gen.Pre_z_finite
public import proofs.«01_k».proof.Proof.Launch
public import proofs.«01_k».proof.Proof.Equation
public import proofs.«01_k».proof.Proof.KernelLaunch
public import Idealize.ShloMosaic.Lib.Quiescent

@[expose] public section

noncomputable section

namespace Cert.Proof

open Idealize.ShloMosaic Idealize.SL.Sem

/-- Every run of the reference ends with its arguments as they were and every counter at zero. -/
theorem reference_frame : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩)
    (Cert.ReferenceIdeal.Value.run m ρ)

/-- Under the precondition every element of the pair representation is a real number. -/
theorem finite_of_pre (m : (ℓ : Loc Cert.KernelIdeal.nD Cert.KernelIdeal.τ Cert.KernelIdeal.sig) → Buf (Elt Ideal) ℓ)
    (h : Cert.Pre_KernelIdeal_z_finite (hPre_z_finite := Cert.Pre_z_finite.Gen.facts) m) (c : Dev Cert.KernelIdeal.nD)
    (i : Cert.KernelIdeal.S1x768x768x128.Idx) :
    ∃ r : ℝ, (show FVec Ideal Cert.KernelIdeal.S1x768x768x128 .f32 from
      m ((c.tc : Thread Cert.KernelIdeal.nD Cert.KernelIdeal.τ).loc Cert.KernelIdeal.main_arg1)) i = (r : EReal) := by
  have h1 := congrFun (h c) i
  apply Cert.Spec.real_of_abs_lt
  by_contra hn
  have h2 : BitVec.ofBool (decide (max ((show FVec Ideal Cert.KernelIdeal.S1x768x768x128 .f32 from
      m ((c.tc : Thread Cert.KernelIdeal.nD Cert.KernelIdeal.τ).loc Cert.KernelIdeal.main_arg1)) i)
      (-(show FVec Ideal Cert.KernelIdeal.S1x768x768x128 .f32 from
      m ((c.tc : Thread Cert.KernelIdeal.nD Cert.KernelIdeal.τ).loc Cert.KernelIdeal.main_arg1)) i) < Ideal.ofBits .f32 0x7F800000#32)) = 1#1 := h1
  rw [decide_eq_false hn] at h2
  exact absurd h2 (by decide)

/-- The kernel and the reference compute the same two arrays over the extended reals. -/
theorem algebraic : Cert.algebraic_KernelIdeal_ReferenceIdeal_pre_z_finite (hKernelIdeal := Cert.KernelIdeal.Gen.facts)
    (hReferenceIdeal := Cert.ReferenceIdeal.Gen.facts) (hPre_z_finite := Cert.Pre_z_finite.Gen.facts) := fun m g m' g' hpre hargs => by
  refine ⟨fun c => Cert.KernelIdeal.Hand.mres m c, fun c => Cert.KernelIdeal.Hand.zres m c, Cert.KernelIdeal.Hand.run_value m g, ?_⟩
  refine (θ_run _ _ _).mono (fun r h c => ⟨(h c).1.trans ?_, (h c).2.1.trans ?_, (h c).2.2⟩) (Cert.ReferenceIdeal.Hand.run_ref m' g')
  · obtain ⟨h0, h1, h2, h3, h4, h5, h6, h7, h8⟩ := hargs c
    rw [h0, h5, h6]
    exact (Cert.KernelIdeal.Hand.mres_eq m c).symm
  · obtain ⟨h0, h1, h2, h3, h4, h5, h6, h7, h8⟩ := hargs c
    rw [h1, h2, h3, h4, h7, h8]
    exact (Cert.KernelIdeal.Hand.zres_eq m c (finite_of_pre m hpre c)).symm

/-- All the certificate's claims. -/
theorem claim : Cert.Claim := ⟨Cert.Kernel.Gen.facts, Cert.KernelIdeal.Gen.facts, Cert.ReferenceIdeal.Gen.facts,
  Cert.Pre_z_finite.Gen.facts,
  fun m ρ _ => Cert.Kernel.Hand.frame m ρ,
  fun m ρ _ => Cert.KernelIdeal.Hand.frame m ρ,
  fun m ρ _ => Cert.KernelIdeal.Hand.frame m ρ,
  fun m ρ _ => reference_frame m ρ trivial,
  fun m ρ _ => reference_frame m ρ trivial,
  trivial,
  algebraic⟩

end Cert.Proof

end
